-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.blockN ⟨3, ![4, 256, 1024]⟩ ⟨3, ![4, 1024, 1024]⟩ (Layout.meshBlock [2, 4, 4] ![[], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨3, ![4, 256, 1024]⟩ ⟨3, ![4, 1024, 1024]⟩ (Layout.meshBlock [2, 4, 4] ![[], [1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 256, 1024]⟩ ⟨3, ![4, 1024, 1024]⟩ (Layout.meshBlock [2, 4, 4] ![[], [1], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![4, 256, 1024]⟩ ⟨3, ![4, 1024, 1024]⟩ (Layout.meshBlock [2, 4, 4] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S4x256x1024 : Shape := ⟨3, ![4, 256, 1024]⟩
abbrev S_ : Shape := ⟨0, ![]⟩

class Facts : Prop where
  bcast_S_S4x256x1024 : S_.BroadcastsInDim S4x256x1024 (![] : Fin 0 → Fin S4x256x1024.rank)

variable [Facts]

def fn {F : FTy → Type} [FloatOps F] (main_arg0 : FVec F S4x256x1024 .bf16) (main_arg1 : FVec F S4x256x1024 .bf16) (main_arg2 : FVec F S4x256x1024 .bf16) : IVec S4x256x1024 1 :=
  let main_v0 : FVec F S4x256x1024 .bf16 := Host.absf main_arg0
  let main_cst : FVec F S_ .bf16 := constant S_ .bf16 0x7F80#16
  let main_v1 : FVec F S4x256x1024 .bf16 := broadcastInDim S4x256x1024 ![] bcast_S_S4x256x1024 main_cst
  let main_v2 : IVec S4x256x1024 1 := cmpf .olt main_v0 main_v1
  let main_v3 : FVec F S4x256x1024 .bf16 := Host.absf main_arg1
  let main_cst_0 : FVec F S_ .bf16 := constant S_ .bf16 0x7F80#16
  let main_v4 : FVec F S4x256x1024 .bf16 := broadcastInDim S4x256x1024 ![] bcast_S_S4x256x1024 main_cst_0
  let main_v5 : IVec S4x256x1024 1 := cmpf .olt main_v3 main_v4
  let main_v6 : IVec S4x256x1024 1 := andi main_v2 main_v5
  main_v6
-- ==== Pre_finite_scores_ReferenceIdeal.lean ====
abbrev S4x1024x1024 : Shape := ⟨3, ![4, 1024, 1024]⟩
abbrev S_ : Shape := ⟨0, ![]⟩

class Facts : Prop where
  bcast_S_S4x1024x1024 : S_.BroadcastsInDim S4x1024x1024 (![] : Fin 0 → Fin S4x1024x1024.rank)

variable [Facts]

def fn {F : FTy → Type} [FloatOps F] (main_arg0 : FVec F S4x1024x1024 .bf16) (main_arg1 : FVec F S4x1024x1024 .bf16) (main_arg2 : FVec F S4x1024x1024 .bf16) : IVec S4x1024x1024 1 :=
  let main_v0 : FVec F S4x1024x1024 .bf16 := Host.absf main_arg0
  let main_cst : FVec F S_ .bf16 := constant S_ .bf16 0x7F80#16
  let main_v1 : FVec F S4x1024x1024 .bf16 := broadcastInDim S4x1024x1024 ![] bcast_S_S4x1024x1024 main_cst
  let main_v2 : IVec S4x1024x1024 1 := cmpf .olt main_v0 main_v1
  let main_v3 : FVec F S4x1024x1024 .bf16 := Host.absf main_arg1
  let main_cst_0 : FVec F S_ .bf16 := constant S_ .bf16 0x7F80#16
  let main_v4 : FVec F S4x1024x1024 .bf16 := broadcastInDim S4x1024x1024 ![] bcast_S_S4x1024x1024 main_cst_0
  let main_v5 : IVec S4x1024x1024 1 := cmpf .olt main_v3 main_v4
  let main_v6 : IVec S4x1024x1024 1 := andi main_v2 main_v5
  main_v6
-- ==== Kernel.lean ====
abbrev S4x256x1024 : Shape := ⟨3, ![4, 256, 1024]⟩
abbrev S4x4x256x1024 : Shape := ⟨4, ![4, 4, 256, 1024]⟩
abbrev S3x2 : Shape := ⟨2, ![3, 2]⟩
abbrev S_ : Shape := ⟨0, ![]⟩
abbrev S1x4x256x1024 : Shape := ⟨4, ![1, 4, 256, 1024]⟩
abbrev S1x1 : Shape := ⟨2, ![1, 1]⟩
abbrev S4x256x64 : Shape := ⟨3, ![4, 256, 64]⟩
abbrev S1x4x256x64 : Shape := ⟨4, ![1, 4, 256, 64]⟩
abbrev S4x256x256 : Shape := ⟨3, ![4, 256, 256]⟩
abbrev S4x256 : Shape := ⟨2, ![4, 256]⟩
abbrev S4x256x1 : Shape := ⟨3, ![4, 256, 1]⟩

abbrev nBuf : Space → Nat
  | .hbm => 4
  | .vmem => 9
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S4x256x1024, .bf16⟩
  | .hbm, ⟨3, _⟩ => ⟨S4x256x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .f32⟩
  | .local _ .vmem, ⟨4, _⟩ => ⟨S4x4x256x1024, .bf16⟩
  | .local _ .vmem, ⟨5, _⟩ => ⟨S4x4x256x1024, .bf16⟩
  | .local _ .vmem, ⟨6, _⟩ => ⟨S4x256x1024, .bf16⟩
  | .local _ .vmem, ⟨7, _⟩ => ⟨S4x256x1024, .f32⟩
  | .local _ .vmem, ⟨8, _⟩ => ⟨S4x256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_24 : BitVec 32 := 16#32
  let v44 : BitVec 32 := Scalar.muli v2 c16_i32_24
  let v45 : BitVec 32 := Scalar.addi c0_i32_25 v44
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.subi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_26 : BitVec 32 := 4#32
  let v46 : BitVec 32 := Scalar.muli v30 c4_i32_26
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v48 : BitVec 32 := Scalar.muli v8 c1_i32_27
  let v49 : BitVec 32 := Scalar.addi v47 v48
  v49.toNat
def k0_dev2 (d0 : Dev nD) : Nat :=
  let c0_i32_30 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_29 : BitVec 32 := 16#32
  let v50 : BitVec 32 := Scalar.muli v2 c16_i32_29
  let v51 : BitVec 32 := Scalar.addi c0_i32_30 v50
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_31 : BitVec 32 := 4#32
  let v52 : BitVec 32 := Scalar.muli v19 c4_i32_31
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v54 : BitVec 32 := Scalar.muli v8 c1_i32_32
  let v55 : BitVec 32 := Scalar.addi v53 v54
  v55.toNat
def k0_dev3 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v56 : BitVec 32 := Scalar.muli v2 c16_i32_34
  let v57 : BitVec 32 := Scalar.addi c0_i32_35 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_36 : BitVec 32 := 4#32
  let v58 : BitVec 32 := Scalar.muli v5 c4_i32_36
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_37 : BitVec 32 := 1#32
  let v60 : BitVec 32 := Scalar.muli v31 c1_i32_37
  let v61 : BitVec 32 := Scalar.addi v59 v60
  v61.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c0_i32_22 : BitVec 32 := 0#32
  let v42 : BitVec 1 := Scalar.cmpi .eq v41 c0_i32_22
  let v80 : BitVec 32 := Scalar.extui v42
  let c0_i32_58 : BitVec 32 := 0#32
  let v81 : BitVec 1 := Scalar.cmpi .ne v80 c0_i32_58
  v81

def k0_dev4 (d0 : Dev nD) : Nat :=
  let c0_i32_1815 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1814 : BitVec 32 := 16#32
  let v1581 : BitVec 32 := Scalar.muli v2 c16_i32_1814
  let v1582 : BitVec 32 := Scalar.addi c0_i32_1815 v1581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_1816 : BitVec 32 := 4#32
  let v1583 : BitVec 32 := Scalar.muli v19 c4_i32_1816
  let v1584 : BitVec 32 := Scalar.addi v1582 v1583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1817 : BitVec 32 := 1#32
  let v1585 : BitVec 32 := Scalar.muli v8 c1_i32_1817
  let v1586 : BitVec 32 := Scalar.addi v1584 v1585
  v1586.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c0_i32_22 : BitVec 32 := 0#32
  let v42 : BitVec 1 := Scalar.cmpi .eq v41 c0_i32_22
  let true_57 : BitVec 1 := 1#1
  let v79 : BitVec 1 := Scalar.xori v42 true_57
  let v82 : BitVec 32 := Scalar.extui v79
  let c0_i32_59 : BitVec 32 := 0#32
  let v83 : BitVec 1 := Scalar.cmpi .ne v82 c0_i32_59
  v83

def k0_dev5 (d0 : Dev nD) : Nat :=
  let c0_i32_1815 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1814 : BitVec 32 := 16#32
  let v1581 : BitVec 32 := Scalar.muli v2 c16_i32_1814
  let v1582 : BitVec 32 := Scalar.addi c0_i32_1815 v1581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_1816 : BitVec 32 := 4#32
  let v1583 : BitVec 32 := Scalar.muli v19 c4_i32_1816
  let v1584 : BitVec 32 := Scalar.addi v1582 v1583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1817 : BitVec 32 := 1#32
  let v1585 : BitVec 32 := Scalar.muli v8 c1_i32_1817
  let v1586 : BitVec 32 := Scalar.addi v1584 v1585
  v1586.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c0_i32_22 : BitVec 32 := 0#32
  let v42 : BitVec 1 := Scalar.cmpi .eq v41 c0_i32_22
  let v401 : BitVec 32 := Scalar.extui v42
  let c0_i32_382 : BitVec 32 := 0#32
  let v402 : BitVec 1 := Scalar.cmpi .ne v401 c0_i32_382
  v402

def k0_dev6 (d0 : Dev nD) : Nat :=
  let c0_i32_1815 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1814 : BitVec 32 := 16#32
  let v1581 : BitVec 32 := Scalar.muli v2 c16_i32_1814
  let v1582 : BitVec 32 := Scalar.addi c0_i32_1815 v1581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1816 : BitVec 32 := 4#32
  let v1583 : BitVec 32 := Scalar.muli v5 c4_i32_1816
  let v1584 : BitVec 32 := Scalar.addi v1582 v1583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1817 : BitVec 32 := 1#32
  let v1585 : BitVec 32 := Scalar.muli v31 c1_i32_1817
  let v1586 : BitVec 32 := Scalar.addi v1584 v1585
  v1586.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c0_i32_22 : BitVec 32 := 0#32
  let v42 : BitVec 1 := Scalar.cmpi .eq v41 c0_i32_22
  let true_381 : BitVec 1 := 1#1
  let v400 : BitVec 1 := Scalar.xori v42 true_381
  let v403 : BitVec 32 := Scalar.extui v400
  let c0_i32_383 : BitVec 32 := 0#32
  let v404 : BitVec 1 := Scalar.cmpi .ne v403 c0_i32_383
  v404

def k0_dev7 (d0 : Dev nD) : Nat :=
  let c0_i32_1815 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1814 : BitVec 32 := 16#32
  let v1581 : BitVec 32 := Scalar.muli v2 c16_i32_1814
  let v1582 : BitVec 32 := Scalar.addi c0_i32_1815 v1581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1816 : BitVec 32 := 4#32
  let v1583 : BitVec 32 := Scalar.muli v5 c4_i32_1816
  let v1584 : BitVec 32 := Scalar.addi v1582 v1583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1817 : BitVec 32 := 1#32
  let v1585 : BitVec 32 := Scalar.muli v31 c1_i32_1817
  let v1586 : BitVec 32 := Scalar.addi v1584 v1585
  v1586.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c0_i32_22 : BitVec 32 := 0#32
  let v42 : BitVec 1 := Scalar.cmpi .eq v41 c0_i32_22
  let v406 : BitVec 32 := Scalar.extui v42
  let c0_i32_385 : BitVec 32 := 0#32
  let v407 : BitVec 1 := Scalar.cmpi .ne v406 c0_i32_385
  v407

def k0_dev8 (d0 : Dev nD) : Nat :=
  let c0_i32_1815 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1814 : BitVec 32 := 16#32
  let v1581 : BitVec 32 := Scalar.muli v2 c16_i32_1814
  let v1582 : BitVec 32 := Scalar.addi c0_i32_1815 v1581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_1816 : BitVec 32 := 4#32
  let v1583 : BitVec 32 := Scalar.muli v19 c4_i32_1816
  let v1584 : BitVec 32 := Scalar.addi v1582 v1583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1817 : BitVec 32 := 1#32
  let v1585 : BitVec 32 := Scalar.muli v8 c1_i32_1817
  let v1586 : BitVec 32 := Scalar.addi v1584 v1585
  v1586.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c0_i32_22 : BitVec 32 := 0#32
  let v42 : BitVec 1 := Scalar.cmpi .eq v41 c0_i32_22
  let true_384 : BitVec 1 := 1#1
  let v405 : BitVec 1 := Scalar.xori v42 true_384
  let v408 : BitVec 32 := Scalar.extui v405
  let c0_i32_386 : BitVec 32 := 0#32
  let v409 : BitVec 1 := Scalar.cmpi .ne v408 c0_i32_386
  v409

def k0_dev9 (d0 : Dev nD) : Nat :=
  let c0_i32_1815 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1814 : BitVec 32 := 16#32
  let v1581 : BitVec 32 := Scalar.muli v2 c16_i32_1814
  let v1582 : BitVec 32 := Scalar.addi c0_i32_1815 v1581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_1816 : BitVec 32 := 4#32
  let v1583 : BitVec 32 := Scalar.muli v19 c4_i32_1816
  let v1584 : BitVec 32 := Scalar.addi v1582 v1583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1817 : BitVec 32 := 1#32
  let v1585 : BitVec 32 := Scalar.muli v8 c1_i32_1817
  let v1586 : BitVec 32 := Scalar.addi v1584 v1585
  v1586.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c0_i32_22 : BitVec 32 := 0#32
  let v42 : BitVec 1 := Scalar.cmpi .eq v41 c0_i32_22
  let v787 : BitVec 32 := Scalar.extui v42
  let c0_i32_835 : BitVec 32 := 0#32
  let v788 : BitVec 1 := Scalar.cmpi .ne v787 c0_i32_835
  v788

def k0_dev10 (d0 : Dev nD) : Nat :=
  let c0_i32_1815 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1814 : BitVec 32 := 16#32
  let v1581 : BitVec 32 := Scalar.muli v2 c16_i32_1814
  let v1582 : BitVec 32 := Scalar.addi c0_i32_1815 v1581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1816 : BitVec 32 := 4#32
  let v1583 : BitVec 32 := Scalar.muli v5 c4_i32_1816
  let v1584 : BitVec 32 := Scalar.addi v1582 v1583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1817 : BitVec 32 := 1#32
  let v1585 : BitVec 32 := Scalar.muli v31 c1_i32_1817
  let v1586 : BitVec 32 := Scalar.addi v1584 v1585
  v1586.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c0_i32_22 : BitVec 32 := 0#32
  let v42 : BitVec 1 := Scalar.cmpi .eq v41 c0_i32_22
  let true_834 : BitVec 1 := 1#1
  let v786 : BitVec 1 := Scalar.xori v42 true_834
  let v789 : BitVec 32 := Scalar.extui v786
  let c0_i32_836 : BitVec 32 := 0#32
  let v790 : BitVec 1 := Scalar.cmpi .ne v789 c0_i32_836
  v790

def k0_dev11 (d0 : Dev nD) : Nat :=
  let c0_i32_1815 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1814 : BitVec 32 := 16#32
  let v1581 : BitVec 32 := Scalar.muli v2 c16_i32_1814
  let v1582 : BitVec 32 := Scalar.addi c0_i32_1815 v1581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1816 : BitVec 32 := 4#32
  let v1583 : BitVec 32 := Scalar.muli v5 c4_i32_1816
  let v1584 : BitVec 32 := Scalar.addi v1582 v1583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1817 : BitVec 32 := 1#32
  let v1585 : BitVec 32 := Scalar.muli v31 c1_i32_1817
  let v1586 : BitVec 32 := Scalar.addi v1584 v1585
  v1586.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c0_i32_22 : BitVec 32 := 0#32
  let v42 : BitVec 1 := Scalar.cmpi .eq v41 c0_i32_22
  let v792 : BitVec 32 := Scalar.extui v42
  let c0_i32_838 : BitVec 32 := 0#32
  let v793 : BitVec 1 := Scalar.cmpi .ne v792 c0_i32_838
  v793

def k0_dev12 (d0 : Dev nD) : Nat :=
  let c0_i32_1815 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1814 : BitVec 32 := 16#32
  let v1581 : BitVec 32 := Scalar.muli v2 c16_i32_1814
  let v1582 : BitVec 32 := Scalar.addi c0_i32_1815 v1581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_1816 : BitVec 32 := 4#32
  let v1583 : BitVec 32 := Scalar.muli v19 c4_i32_1816
  let v1584 : BitVec 32 := Scalar.addi v1582 v1583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1817 : BitVec 32 := 1#32
  let v1585 : BitVec 32 := Scalar.muli v8 c1_i32_1817
  let v1586 : BitVec 32 := Scalar.addi v1584 v1585
  v1586.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c0_i32_22 : BitVec 32 := 0#32
  let v42 : BitVec 1 := Scalar.cmpi .eq v41 c0_i32_22
  let true_837 : BitVec 1 := 1#1
  let v791 : BitVec 1 := Scalar.xori v42 true_837
  let v794 : BitVec 32 := Scalar.extui v791
  let c0_i32_839 : BitVec 32 := 0#32
  let v795 : BitVec 1 := Scalar.cmpi .ne v794 c0_i32_839
  v795

def k0_dev13 (d0 : Dev nD) : Nat :=
  let c0_i32_1815 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1814 : BitVec 32 := 16#32
  let v1581 : BitVec 32 := Scalar.muli v2 c16_i32_1814
  let v1582 : BitVec 32 := Scalar.addi c0_i32_1815 v1581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_1816 : BitVec 32 := 4#32
  let v1583 : BitVec 32 := Scalar.muli v19 c4_i32_1816
  let v1584 : BitVec 32 := Scalar.addi v1582 v1583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1817 : BitVec 32 := 1#32
  let v1585 : BitVec 32 := Scalar.muli v8 c1_i32_1817
  let v1586 : BitVec 32 := Scalar.addi v1584 v1585
  v1586.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c0_i32_22 : BitVec 32 := 0#32
  let v42 : BitVec 1 := Scalar.cmpi .eq v41 c0_i32_22
  let v1173 : BitVec 32 := Scalar.extui v42
  let c0_i32_1288 : BitVec 32 := 0#32
  let v1174 : BitVec 1 := Scalar.cmpi .ne v1173 c0_i32_1288
  v1174

def k0_dev14 (d0 : Dev nD) : Nat :=
  let c0_i32_1815 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1814 : BitVec 32 := 16#32
  let v1581 : BitVec 32 := Scalar.muli v2 c16_i32_1814
  let v1582 : BitVec 32 := Scalar.addi c0_i32_1815 v1581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1816 : BitVec 32 := 4#32
  let v1583 : BitVec 32 := Scalar.muli v5 c4_i32_1816
  let v1584 : BitVec 32 := Scalar.addi v1582 v1583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1817 : BitVec 32 := 1#32
  let v1585 : BitVec 32 := Scalar.muli v31 c1_i32_1817
  let v1586 : BitVec 32 := Scalar.addi v1584 v1585
  v1586.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let c0_i32_17 : BitVec 32 := 0#32
  let v32 : BitVec 1 := Scalar.cmpi .eq c2_i32_16 c0_i32_17
  let c1_i32_18 : BitVec 32 := 1#32
  let v33 : BitVec 32 := Scalar.select v32 c1_i32_18 c2_i32_16
  let v34 : BitVec 32 := Scalar.remsi v8 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c0_i32_22 : BitVec 32 := 0#32
  let v42 : BitVec 1 := Scalar.cmpi .eq v41 c0_i32_22
  let true_1287 : BitVec 1 := 1#1
  let v1172 : BitVec 1 := Scalar.xori v42 true_1287
  let v1175 : BitVec 32 := Scalar.extui v1172
  let c0_i32_1289 : BitVec 32 := 0#32
  let v1176 : BitVec 1 := Scalar.cmpi .ne v1175 c0_i32_1289
  v1176

def k0_dev15 (d0 : Dev nD) : Nat :=
  let c0_i32_1815 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1814 : BitVec 32 := 16#32
  let v1581 : BitVec 32 := Scalar.muli v2 c16_i32_1814
  let v1582 : BitVec 32 := Scalar.addi c0_i32_1815 v1581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1816 : BitVec 32 := 4#32
  let v1583 : BitVec 32 := Scalar.muli v5 c4_i32_1816
  let v1584 : BitVec 32 := Scalar.addi v1582 v1583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.xori v8 c1_i32_15
  let c1_i32_1817 : BitVec 32 := 1#32
  let v1585 : BitVec 32 := Scalar.muli v31 c1_i32_1817
  let v1586 : BitVec 32 := Scalar.addi v1584 v1585
  v1586.toNat
abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x1024x1024 : Shape := ⟨3, ![4, 1024, 1024]⟩
abbrev S4x1024x16x64 : Shape := ⟨4, ![4, 1024, 16, 64]⟩
abbrev S4x16x1024x1024 : Shape := ⟨4, ![4, 16, 1024, 1024]⟩
abbrev S_ : Shape := ⟨0, ![]⟩
abbrev S4x16x1024 : Shape := ⟨3, ![4, 16, 1024]⟩
abbrev S4x16x1024x1 : Shape := ⟨4, ![4, 16, 1024, 1]⟩
abbrev S4x16x64x1024 : Shape := ⟨4, ![4, 16, 64, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S4x1024x1024, .bf16⟩
  | .hbm, ⟨2, _⟩ => ⟨S4x1024x1024, .bf16⟩
  | .hbm, ⟨3, _⟩ => ⟨S4x1024x1024, .f32⟩
  | .hbm, ⟨4, _⟩ => ⟨S4x1024x16x64, .f32⟩
  | .hbm, ⟨5, _⟩ => ⟨S4x1024x1024, .f32⟩
  | .hbm, ⟨6, _⟩ => ⟨S4x1024x16x64, .f32⟩
  | .hbm, ⟨7, _⟩ => ⟨S4x1024x1024, .f32⟩
  | .hbm, ⟨8, _⟩ => ⟨S4x1024x16x64, .f32⟩
  | .hbm, ⟨9, _⟩ => ⟨S4x16x1024x1024, .f32⟩
  | .hbm, ⟨10, _⟩ => ⟨S_, .f32⟩
  | .hbm, ⟨11, _⟩ => ⟨S4x16x1024x1024, .f32⟩
  | .hbm, ⟨12, _⟩ => ⟨S4x16x1024x1024, .f32⟩
  | .hbm, ⟨13, _⟩ => ⟨S_, .f32⟩
  | .hbm, ⟨14, _⟩ => ⟨S4x16x1024, .f32⟩
  | .hbm, ⟨15, _⟩ => ⟨S4x16x1024x1, .f32⟩
  | .hbm, ⟨16, _⟩ => ⟨S4x16x1024x1024, .f32⟩
  | .hbm, ⟨17, _⟩ => ⟨S4x16x1024x1024, .f32⟩
  | .hbm, ⟨18, _⟩ => ⟨S4x16x1024x1024, .f32⟩
  | .hbm, ⟨19, _⟩ => ⟨S_, .f32⟩
  | .hbm, ⟨20, _⟩ => ⟨S4x16x1024, .f32⟩
  | .hbm, ⟨21, _⟩ => ⟨S4x16x1024x1, .f32⟩
  | .hbm, ⟨22, _⟩ => ⟨S4x16x1024x1024, .f32⟩
  | .hbm, ⟨23, _⟩ => ⟨S4x16x1024x1024, .f32⟩
  | .hbm, ⟨24, _⟩ => ⟨S4x16x64x1024, .f32⟩
  | .hbm, ⟨25, _⟩ => ⟨S4x1024x16x64, .f32⟩
  | .hbm, ⟨26, _⟩ => ⟨S4x1024x1024, .f32⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Canon.lean ====
/-
# The kernel body as one program over symbolic slots and heads

The printed body is a long straight line: the same head step at sixteen columns of four slots, two copies and two
waits per hop. Here it is written once over a slot `s : Fin 4`, a head `h : Fin 16` and a hop, with the buffer a
device rings given by the parity of its place on the last mesh axis; `body_eq` says the printed body is this program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Attn

open Cert.KernelIdeal Cert.KernelIdeal.Gen
open Idealize.ShloMosaic
open Idealize.ShloMosaic.TcCoe
open Idealize.SL.Sem

variable {F : FTy → Type} [FloatOps F]

/-! ## Neighbours on the mesh (2 × 4 × 4, row-major) -/

/-- The next device along the second axis. -/
def nxt (c : Dev nD) : Dev nD := ⟨c.val / 16 * 16 + (c.val / 4 % 4 + 1) % 4 * 4 + c.val % 4, by
  have := c.isLt; simp only [nD] at *; omega⟩
/-- The previous device along the second axis. -/
def prv (c : Dev nD) : Dev nD := ⟨c.val / 16 * 16 + (c.val / 4 % 4 + 3) % 4 * 4 + c.val % 4, by
  have := c.isLt; simp only [nD] at *; omega⟩
/-- The partner along the last axis: places 0,1 pair up, and 2,3. -/
def par (c : Dev nD) : Dev nD := ⟨c.val / 2 * 2 + (c.val + 1) % 2, by
  have := c.isLt; simp only [nD] at *; omega⟩
/-- Whether the device's place on the last axis is even: it then rings K, otherwise V. -/
def ev (c : Dev nD) : Bool := c.val % 2 == 0

theorem nxt_prv (c : Dev nD) : nxt (prv c) = c := by revert c; decide
theorem prv_nxt (c : Dev nD) : prv (nxt c) = c := by revert c; decide
theorem par_par (c : Dev nD) : par (par c) = c := by revert c; decide
theorem ev_nxt (c : Dev nD) : ev (nxt c) = ev c := by revert c; decide
theorem ev_prv (c : Dev nD) : ev (prv c) = ev c := by revert c; decide
theorem ev_par (c : Dev nD) : ev (par c) = !ev c := by revert c; decide
theorem par_prv (c : Dev nD) : par (prv c) = prv (par c) := by revert c; decide
theorem par_nxt (c : Dev nD) : par (nxt c) = nxt (par c) := by revert c; decide

/-! ## The buffers, the slots of the gathered ones, the semaphores -/

/-- The gathered buffer of K (`true`) or V (`false`). -/
def buf : Bool → Memref sig .tc .vmem S4x4x256x1024 .bf16
  | true => Memref.whole cc0_scratch0
  | false => Memref.whole cc0_scratch1

theorem buf_whole : (b : Bool) → (buf b).IsWhole
  | true => Memref.isWhole_whole _
  | false => Memref.isWhole_whole _

/-- Slot `s` of a gathered buffer lies inside it. -/
theorem inb_slot (s : Fin 4) : ∀ a, (![s.val, 0, 0, 0] : Fin 4 → Nat) a + S1x4x256x1024.size a ≤ S4x4x256x1024.size a := by
  revert s; decide

/-- Slot `s` of a gathered buffer is whole words. -/
theorem words_slot : (s : Fin 4) → (Rect.unit (s := S4x4x256x1024) ![s.val, 0, 0, 0] S1x4x256x1024.size (inb_slot s)).WholeWords (EltTy.packing .bf16)
  | 0 => wordsbf16_S4x4x256x1024_S1x4x256x1024_0_0_0_0
  | 1 => wordsbf16_S4x4x256x1024_S1x4x256x1024_1_0_0_0
  | 2 => wordsbf16_S4x4x256x1024_S1x4x256x1024_2_0_0_0
  | 3 => wordsbf16_S4x4x256x1024_S1x4x256x1024_3_0_0_0

/-- Head `h`'s columns lie inside a row. -/
theorem inb_head (h : Fin 16) : ∀ a, (![0, 0, 64 * h.val] : Fin 3 → Nat) a + S4x256x64.size a ≤ S4x256x1024.size a := by
  revert h; decide

/-- Head `h`'s columns of slot `s` lie inside a gathered buffer. -/
theorem inb_shead (s : Fin 4) (h : Fin 16) : ∀ a, (![s.val, 0, 0, 64 * h.val] : Fin 4 → Nat) a + S1x4x256x64.size a ≤ S4x4x256x1024.size a := by
  revert s h; decide

/-- A semaphore of the three-by-two arrays lies inside them. -/
theorem inb_sem (h : Fin 3) (j : Fin 2) : ∀ a, (![h.val, j.val] : Fin 2 → Nat) a + S1x1.size a ≤ S3x2.size a := by
  revert h j; decide

/-- Slot `s` of the buffer `m`, as a block. -/
abbrev slotOf (m : Memref sig .tc .vmem S4x4x256x1024 .bf16) (s : Fin 4) : Memref sig .tc .vmem S4x256x1024 .bf16 :=
  (m.slice (Rect.unit (s := S4x4x256x1024) ![s.val, 0, 0, 0] S1x4x256x1024.size (inb_slot s)) (fun _ => rfl)).squeeze S4x256x1024 squeezes_S1x4x256x1024_S4x256x1024

theorem slotOf_exact (m : Memref sig .tc .vmem S4x4x256x1024 .bf16) (hm : m.IsWhole) (s : Fin 4) : (slotOf m s).view.WordExact :=
  (hm.wordExact_slice rfl _ (words_slot s)).reshape _ _

/-- The send semaphore of hop `h`: `j = 0` along the ring, `j = 1` to the partner. -/
abbrev sSem (h : Fin 3) (j : Fin 2) : DmaSem sig :=
  ((cc0_scratch5.slice (Rect.unit (s := S3x2) ![h.val, j.val] S1x1.size (inb_sem h j))).squeeze S_ squeezes_S1x1_S_).sem
/-- The receive semaphore of hop `h`. -/
abbrev rSem (h : Fin 3) (j : Fin 2) : DmaSem sig :=
  ((cc0_scratch6.slice (Rect.unit (s := S3x2) ![h.val, j.val] S1x1.size (inb_sem h j))).squeeze S_ squeezes_S1x1_S_).sem
/-- The runtime's barrier semaphore. -/
abbrev barS : Sem sig := (SemArray.scalar (sig.barrier 0 rfl) : Sems sig S_).sem

/-- The program type of the body. -/
abbrev PU (F : FTy → Type) (α : Type) : Type 1 := Prog (TpuEff nD τ sig (Elt F) Λ₀ .tc) α

/-! ## The steps -/

/-- A remote copy of slot `s` of the buffer `b` into slot `t` of the same buffer on device `d`. -/
def sendTo (b : Bool) (s t : Fin 4) (h : Fin 3) (j : Fin 2) (d : Dev nD) : PU F PUnit :=
  Prog.lift (.enqueueDma (slotOf (buf b) s) (.remote (Dev.tc d) (slotOf (buf b) t) (.dma (sSem h j))) (.dma (rSem h j))
    (slotOf_exact _ (buf_whole b) s) (slotOf_exact _ (buf_whole b) t) ⟨⟨rfl, Or.inl rfl⟩, trivial⟩)

/-- A wait for one slot's worth of the semaphore `σ`. -/
def waitFor (σ : DmaSem sig) (s t : Fin 4) : PU F PUnit :=
  Prog.lift (.waitDma2 σ (slotOf (Memref.whole cc0_scratch0) s) (slotOf (Memref.whole cc0_scratch0) t)
    (slotOf_exact _ (Memref.isWhole_whole _) s) (slotOf_exact _ (Memref.isWhole_whole _) t))

/-- A load of head `h`'s columns of a block. -/
def ldHead {e : EltTy} (m : Memref sig .tc .vmem S4x256x1024 e) (h : Fin 16) : PU F (Vec F S4x256x64 e) :=
  Prog.lift (.load m (Rect.unit (s := S4x256x1024) ![0, 0, 64 * h.val] S4x256x64.size (inb_head h)).toLoadRect (View.loadsAt_vmem h_S4x256x64))

/-- A load of head `h`'s columns of slot `s`. -/
def ldSHead (m : Memref sig .tc .vmem S4x4x256x1024 .bf16) (s : Fin 4) (h : Fin 16) : PU F (Vec F S1x4x256x64 .bf16) :=
  Prog.lift (.load m (Rect.unit (s := S4x4x256x1024) ![s.val, 0, 0, 64 * h.val] S1x4x256x64.size (inb_shead s h)).toLoadRect (View.loadsAt_vmem h_S1x4x256x64))

/-- A store of head `h`'s columns of a block of 32-bit floats. -/
def stHead (m : Memref sig .tc .vmem S4x256x1024 .f32) (h : Fin 16) (w : FVec F S4x256x64 .f32) : PU F PUnit :=
  Prog.lift (.store m (Rect.unit (s := S4x256x1024) ![0, 0, 64 * h.val] S4x256x64.size (inb_head h)) w Finset.univ
    (View.stores_vmem_bits_univ h_S4x256x64 rfl) (.inl rfl))

/-- A load of a whole block. -/
def ldAll {e : EltTy} (m : Memref sig .tc .vmem S4x256x1024 e) : PU F (Vec F S4x256x1024 e) :=
  Prog.lift (.load m (Rect.unit (s := S4x256x1024) ![0, 0, 0] S4x256x1024.size inb_S4x256x1024_S4x256x1024_0_0_0).toLoadRect (View.loadsAt_vmem h_S4x256x1024))

/-- A load of slot 0. -/
def ldSlot0 (m : Memref sig .tc .vmem S4x4x256x1024 .bf16) : PU F (Vec F S1x4x256x1024 .bf16) :=
  Prog.lift (.load m (Rect.unit (s := S4x4x256x1024) ![0, 0, 0, 0] S1x4x256x1024.size inb_S4x4x256x1024_S1x4x256x1024_0_0_0_0).toLoadRect (View.loadsAt_vmem h_S1x4x256x1024))

/-- A store of slot 0. -/
def stSlot0 (m : Memref sig .tc .vmem S4x4x256x1024 .bf16) (hm : m.IsWhole) (w : FVec F S1x4x256x1024 .bf16) : PU F PUnit :=
  Prog.lift (.store m (Rect.unit (s := S4x4x256x1024) ![0, 0, 0, 0] S1x4x256x1024.size inb_S4x4x256x1024_S1x4x256x1024_0_0_0_0) w Finset.univ
    (View.stores_vmem h_S1x4x256x1024 (hm.storeExact_slice rfl _ packedbf16_S4x4x256x1024_S1x4x256x1024_0_0_0_0) (fun _ => rfl)) (.inl rfl))

/-- The kernel's local blocks: queries, keys, values, result, scaled queries, numerator, denominator. -/
abbrev qIn : Memref sig .tc .vmem S4x256x1024 .bf16 := Memref.whole cc0_stg0_0
abbrev kIn : Memref sig .tc .vmem S4x256x1024 .bf16 := Memref.whole cc0_stg1_0
abbrev vIn : Memref sig .tc .vmem S4x256x1024 .bf16 := Memref.whole cc0_stg2_0
abbrev oOut : Memref sig .tc .vmem S4x256x1024 .f32 := Memref.whole cc0_stg3_0
abbrev qBuf : Memref sig .tc .vmem S4x256x1024 .bf16 := Memref.whole cc0_scratch2
abbrev accB : Memref sig .tc .vmem S4x256x1024 .f32 := Memref.whole cc0_scratch3
abbrev lB : Memref sig .tc .vmem S4x256x1024 .f32 := Memref.whole cc0_scratch4

/-! ## One head's arithmetic -/

/-- The exponentials of one head's scores against one slot's keys. -/
def scr (q : Vec F S4x256x64 .bf16) (k : Vec F S1x4x256x64 .bf16) : FVec F S4x256x256 .f32 :=
  exp (matmul dot_S4x256x64_S4x256x64_S4x256x256_2_2_1_1_0_0 none q (shapeCast S4x256x64 k shapeCasts_S1x4x256x64_S4x256x64) (constant S4x256x256 .f32 0x00000000#32))
/-- Their row sums. -/
def rsum (q : Vec F S4x256x64 .bf16) (k : Vec F S1x4x256x64 .bf16) : FVec F S4x256x1 .f32 :=
  shapeCast S4x256x1 (multiReduction .add [2] S4x256 (scr q k) 0x00000000#32 reduces_S4x256x256_S4x256 (.inl rfl) rfl) shapeCasts_S4x256_S4x256x1
/-- Their product with the slot's values. -/
def pvp (q : Vec F S4x256x64 .bf16) (k v : Vec F S1x4x256x64 .bf16) : FVec F S4x256x64 .f32 :=
  matmul dot_S4x256x256_S4x256x64_S4x256x64_2_1_1_2_0_0 none (truncf .bf16 (scr q k) bitsLt_bf16_f32)
    (shapeCast S4x256x64 v shapeCasts_S1x4x256x64_S4x256x64) (constant S4x256x64 .f32 0x00000000#32)
/-- The first slot's numerator and denominator of a head, as stored. -/
def acc0 (q : Vec F S4x256x64 .bf16) (k v : Vec F S1x4x256x64 .bf16) : FVec F S4x256x64 .f32 :=
  shapeCast S4x256x64 (pvp q k v) shapeCasts_S4x256x64_S4x256x64
def l0 (q : Vec F S4x256x64 .bf16) (k : Vec F S1x4x256x64 .bf16) : FVec F S4x256x64 .f32 :=
  shapeCast S4x256x64 (broadcastTo S4x256x64 (shapeCast S4x256x1 (rsum q k) shapeCasts_S4x256x1_S4x256x1) broadcasts_S4x256x1_S4x256x64) shapeCasts_S4x256x64_S4x256x64
/-- A later slot's, added to what the buffers hold. -/
def acc1 (q : Vec F S4x256x64 .bf16) (k v : Vec F S1x4x256x64 .bf16) (a : Vec F S4x256x64 .f32) : FVec F S4x256x64 .f32 :=
  shapeCast S4x256x64 (addf a (pvp q k v)) shapeCasts_S4x256x64_S4x256x64
def l1 (q : Vec F S4x256x64 .bf16) (k : Vec F S1x4x256x64 .bf16) (l : Vec F S4x256x64 .f32) : FVec F S4x256x64 .f32 :=
  shapeCast S4x256x64 (addf l (broadcastTo S4x256x64 (rsum q k) broadcasts_S4x256x1_S4x256x64)) shapeCasts_S4x256x64_S4x256x64

/-! ## Head steps, stages, the body -/

/-- One head against slot 0. -/
def head0 (h : Fin 16) : PU F PUnit := do
  let q ← ldHead qBuf h
  let k ← ldSHead (buf true) 0 h
  let v ← ldSHead (buf false) 0 h
  let _ ← ldHead accB h
  stHead accB h (acc0 q k v)
  let _ ← ldHead lB h
  stHead lB h (l0 q k)

/-- One head against a later slot. -/
def head1 (s : Fin 4) (h : Fin 16) : PU F PUnit := do
  let q ← ldHead qBuf h
  let k ← ldSHead (buf true) s h
  let v ← ldSHead (buf false) s h
  let a ← ldHead accB h
  let _ ← ldHead accB h
  stHead accB h (acc1 q k v a)
  let l ← ldHead lB h
  let _ ← ldHead lB h
  stHead lB h (l1 q k l)

/-- A step at each head of a list in turn. -/
def heads (step : Fin 16 → PU F PUnit) : List (Fin 16) → PU F PUnit
  | [] => pure ⟨⟩
  | h :: hs => step h >>= fun _ => heads step hs

/-- All sixteen heads in order. -/
abbrev allHeads : List (Fin 16) := [0, 1, 2, 3, 4, 5, 6, 7, 8, 9, 10, 11, 12, 13, 14, 15]

/-- The body from its first signal on: `b` the buffer rung, `x y z` the devices signalled, `r₀ r₁ r₂` the devices the
    ring's copies go to and `p₀ p₁ p₂` those the partner's go to. -/
def canonD (b : Bool) (x y z r₀ p₀ r₁ p₁ r₂ p₂ : Dev nD) : PU F PUnit := do
  semSignalWord x barS 1#32
  semSignalWord y barS 1#32
  semSignalWord z barS 1#32
  semWaitWord barS 3#32
  let k ← ldAll kIn
  let _ ← ldSlot0 (buf true)
  stSlot0 (buf true) (buf_whole _) (k0_pay2 (k0_pay1 k))
  let v ← ldAll vIn
  let _ ← ldSlot0 (buf false)
  stSlot0 (buf false) (buf_whole _) (k0_pay3 v)
  let q ← ldAll qIn
  let _ ← ldAll qBuf
  Prog.lift (.store qBuf (Rect.unit (s := S4x256x1024) ![0, 0, 0] S4x256x1024.size inb_S4x256x1024_S4x256x1024_0_0_0) (k0_pay4 q) Finset.univ
    (View.stores_vmem h_S4x256x1024 ((Memref.isWhole_whole _).storeExact_slice rfl _ packedbf16_S4x256x1024_S4x256x1024_0_0_0) (fun _ => rfl)) (.inl rfl))
  sendTo b 0 1 0 0 r₀
  heads head0 allHeads
  waitFor (rSem 0 0) 0 1
  sendTo b 1 1 0 1 p₀
  sendTo b 1 2 1 0 r₁
  waitFor (rSem 0 1) 0 1
  heads (head1 1) allHeads
  waitFor (rSem 1 0) 1 2
  sendTo b 2 2 1 1 p₁
  sendTo b 2 3 2 0 r₂
  waitFor (rSem 1 1) 1 2
  heads (head1 2) allHeads
  waitFor (rSem 2 0) 2 3
  sendTo b 3 3 2 1 p₂
  waitFor (rSem 2 1) 2 3
  heads (head1 3) allHeads
  let a ← ldAll accB
  let l ← ldAll lB
  let _ ← ldAll oOut
  Prog.lift (.store oOut (Rect.unit (s := S4x256x1024) ![0, 0, 0] S4x256x1024.size inb_S4x256x1024_S4x256x1024_0_0_0) (k0_pay259 a l) Finset.univ
    (View.stores_vmem_bits_univ h_S4x256x1024 rfl) (.inl rfl))
  waitFor (sSem 0 0) 1 0
  waitFor (sSem 0 1) 1 0
  waitFor (sSem 1 0) 2 1
  waitFor (sSem 1 1) 2 1
  waitFor (sSem 2 0) 3 2
  waitFor (sSem 2 1) 3 2

/-- The body of device `c` from its first signal on. -/
abbrev canon (c : Dev nD) : PU F PUnit :=
  canonD (ev c) (prv c) (nxt c) (par c) (nxt c) (par c) (nxt c) (par c) (nxt c) (par c)

/-! ## The printed conditions and devices -/

/-- The devices the printed words name, and the conditions under which they are named. -/
theorem dev1_eq (c : Dev nD) (h : k0_dev1 c < nD) : (⟨k0_dev1 c, h⟩ : Dev nD) = prv c := by revert c; decide
theorem dev2_eq (c : Dev nD) (h : k0_dev2 c < nD) : (⟨k0_dev2 c, h⟩ : Dev nD) = nxt c := by revert c; decide
theorem dev3_eq (c : Dev nD) (h : k0_dev3 c < nD) : (⟨k0_dev3 c, h⟩ : Dev nD) = par c := by revert c; decide
theorem dev4_eq (c : Dev nD) (h : k0_dev4 c < nD) : (⟨k0_dev4 c, h⟩ : Dev nD) = nxt c := by revert c; decide
theorem dev5_eq (c : Dev nD) (h : k0_dev5 c < nD) : (⟨k0_dev5 c, h⟩ : Dev nD) = nxt c := by revert c; decide
theorem dev6_eq (c : Dev nD) (h : k0_dev6 c < nD) : (⟨k0_dev6 c, h⟩ : Dev nD) = par c := by revert c; decide
theorem dev7_eq (c : Dev nD) (h : k0_dev7 c < nD) : (⟨k0_dev7 c, h⟩ : Dev nD) = par c := by revert c; decide
theorem dev8_eq (c : Dev nD) (h : k0_dev8 c < nD) : (⟨k0_dev8 c, h⟩ : Dev nD) = nxt c := by revert c; decide
theorem dev9_eq (c : Dev nD) (h : k0_dev9 c < nD) : (⟨k0_dev9 c, h⟩ : Dev nD) = nxt c := by revert c; decide
theorem dev10_eq (c : Dev nD) (h : k0_dev10 c < nD) : (⟨k0_dev10 c, h⟩ : Dev nD) = par c := by revert c; decide
theorem dev11_eq (c : Dev nD) (h : k0_dev11 c < nD) : (⟨k0_dev11 c, h⟩ : Dev nD) = par c := by revert c; decide
theorem dev12_eq (c : Dev nD) (h : k0_dev12 c < nD) : (⟨k0_dev12 c, h⟩ : Dev nD) = nxt c := by revert c; decide
theorem dev13_eq (c : Dev nD) (h : k0_dev13 c < nD) : (⟨k0_dev13 c, h⟩ : Dev nD) = nxt c := by revert c; decide
theorem dev14_eq (c : Dev nD) (h : k0_dev14 c < nD) : (⟨k0_dev14 c, h⟩ : Dev nD) = par c := by revert c; decide
theorem dev15_eq (c : Dev nD) (h : k0_dev15 c < nD) : (⟨k0_dev15 c, h⟩ : Dev nD) = par c := by revert c; decide
theorem cond1_eq (c : Dev nD) : (k0_cond1 c = 1#1) = (ev c = true) := by revert c; decide
theorem cond2_eq (c : Dev nD) : (k0_cond2 c = 1#1) = (ev c = false) := by revert c; decide
theorem cond3_eq (c : Dev nD) : (k0_cond3 c = 1#1) = (ev c = true) := by revert c; decide
theorem cond4_eq (c : Dev nD) : (k0_cond4 c = 1#1) = (ev c = false) := by revert c; decide
theorem cond5_eq (c : Dev nD) : (k0_cond5 c = 1#1) = (ev c = true) := by revert c; decide
theorem cond6_eq (c : Dev nD) : (k0_cond6 c = 1#1) = (ev c = false) := by revert c; decide
theorem cond7_eq (c : Dev nD) : (k0_cond7 c = 1#1) = (ev c = true) := by revert c; decide
theorem cond8_eq (c : Dev nD) : (k0_cond8 c = 1#1) = (ev c = false) := by revert c; decide
theorem cond9_eq (c : Dev nD) : (k0_cond9 c = 1#1) = (ev c = true) := by revert c; decide
theorem cond10_eq (c : Dev nD) : (k0_cond10 c = 1#1) = (ev c = false) := by revert c; decide
theorem cond11_eq (c : Dev nD) : (k0_cond11 c = 1#1) = (ev c = true) := by revert c; decide
theorem cond12_eq (c : Dev nD) : (k0_cond12 c = 1#1) = (ev c = false) := by revert c; decide

set_option maxRecDepth 65536 in
/-- The printed body learns its device and is then `canon` of it. -/
theorem body_eq :
    cc0_body (F := F) qIn (Memref.isWhole_whole _) kIn (Memref.isWhole_whole _) vIn (Memref.isWhole_whole _) oOut (Memref.isWhole_whole _)
      (Memref.whole cc0_scratch0) (Memref.isWhole_whole _) (Memref.whole cc0_scratch1) (Memref.isWhole_whole _) qBuf (Memref.isWhole_whole _)
      accB (Memref.isWhole_whole _) lB (Memref.isWhole_whole _) cc0_scratch5 cc0_scratch6
    = (Prog.lift .deviceId >>= fun c => canon c) := by
  rw [cc0_body_eq_skeleton]
  unfold cc0_body_skel
  rw [k0_part60_eq_skeleton]
  unfold k0_part60_skel
  rw [k0_part1_eq_skeleton]
  unfold k0_part1_skel
  simp only [Prog.lift, Prog.bind_op, Prog.bind_ret, Prog.pure_eq_ret]
  refine congrArg (Prog.op TpuEff.deviceId) (funext fun c => ?_)
  rw [k0_part3_eq_skeleton, k0_part15_eq_skeleton, k0_part29_eq_skeleton, k0_part30_eq_skeleton, k0_part44_eq_skeleton]
  unfold k0_part3_skel k0_part15_skel k0_part29_skel k0_part30_skel k0_part44_skel
  rcases (Bool.eq_false_or_eq_true (ev c)).symm with h | h
  · have h' : ¬ (ev c = true) := by simp [h]
    have h₁ : ¬ k0_cond1 c = 1#1 := by rw [cond1_eq]; exact h'
    have h₃ : ¬ k0_cond3 c = 1#1 := by rw [cond3_eq]; exact h'
    have h₅ : ¬ k0_cond5 c = 1#1 := by rw [cond5_eq]; exact h'
    have h₇ : ¬ k0_cond7 c = 1#1 := by rw [cond7_eq]; exact h'
    have h₉ : ¬ k0_cond9 c = 1#1 := by rw [cond9_eq]; exact h'
    have h₁₁ : ¬ k0_cond11 c = 1#1 := by rw [cond11_eq]; exact h'
    have h₂ : k0_cond2 c = 1#1 := by rw [cond2_eq]; exact h
    have h₄ : k0_cond4 c = 1#1 := by rw [cond4_eq]; exact h
    have h₆ : k0_cond6 c = 1#1 := by rw [cond6_eq]; exact h
    have h₈ : k0_cond8 c = 1#1 := by rw [cond8_eq]; exact h
    have h₁₀ : k0_cond10 c = 1#1 := by rw [cond10_eq]; exact h
    have h₁₂ : k0_cond12 c = 1#1 := by rw [cond12_eq]; exact h
    simp only [dif_neg h₁, dif_neg h₃, dif_neg h₅, dif_neg h₇, dif_neg h₉, dif_neg h₁₁, dif_pos h₂, dif_pos h₄, dif_pos h₆, dif_pos h₈, dif_pos h₁₀, dif_pos h₁₂]
    refine Eq.trans (b := canonD false ⟨k0_dev1 c, k0_dev1_lt c⟩ ⟨k0_dev2 c, k0_dev2_lt c⟩ ⟨k0_dev3 c, k0_dev3_lt c⟩
      ⟨k0_dev5 c, k0_dev5_lt c h₂⟩ ⟨k0_dev7 c, k0_dev7_lt c h₄⟩ ⟨k0_dev9 c, k0_dev9_lt c h₆⟩ ⟨k0_dev11 c, k0_dev11_lt c h₈⟩
      ⟨k0_dev13 c, k0_dev13_lt c h₁₀⟩ ⟨k0_dev15 c, k0_dev15_lt c h₁₂⟩) ?_ ?_
    · chain_rfl
    · rw [dev1_eq, dev2_eq, dev3_eq, dev5_eq, dev7_eq, dev9_eq, dev11_eq, dev13_eq, dev15_eq]; unfold canon; rw [h]
  · have h' : ¬ (ev c = false) := by simp [h]
    have h₂ : ¬ k0_cond2 c = 1#1 := by rw [cond2_eq]; exact h'
    have h₄ : ¬ k0_cond4 c = 1#1 := by rw [cond4_eq]; exact h'
    have h₆ : ¬ k0_cond6 c = 1#1 := by rw [cond6_eq]; exact h'
    have h₈ : ¬ k0_cond8 c = 1#1 := by rw [cond8_eq]; exact h'
    have h₁₀ : ¬ k0_cond10 c = 1#1 := by rw [cond10_eq]; exact h'
    have h₁₂ : ¬ k0_cond12 c = 1#1 := by rw [cond12_eq]; exact h'
    have h₁ : k0_cond1 c = 1#1 := by rw [cond1_eq]; exact h
    have h₃ : k0_cond3 c = 1#1 := by rw [cond3_eq]; exact h
    have h₅ : k0_cond5 c = 1#1 := by rw [cond5_eq]; exact h
    have h₇ : k0_cond7 c = 1#1 := by rw [cond7_eq]; exact h
    have h₉ : k0_cond9 c = 1#1 := by rw [cond9_eq]; exact h
    have h₁₁ : k0_cond11 c = 1#1 := by rw [cond11_eq]; exact h
    simp only [dif_pos h₁, dif_pos h₃, dif_pos h₅, dif_pos h₇, dif_pos h₉, dif_pos h₁₁, dif_neg h₂, dif_neg h₄, dif_neg h₆, dif_neg h₈, dif_neg h₁₀, dif_neg h₁₂]
    refine Eq.trans (b := canonD true ⟨k0_dev1 c, k0_dev1_lt c⟩ ⟨k0_dev2 c, k0_dev2_lt c⟩ ⟨k0_dev3 c, k0_dev3_lt c⟩
      ⟨k0_dev4 c, k0_dev4_lt c h₁⟩ ⟨k0_dev6 c, k0_dev6_lt c h₃⟩ ⟨k0_dev8 c, k0_dev8_lt c h₅⟩ ⟨k0_dev10 c, k0_dev10_lt c h₇⟩
      ⟨k0_dev12 c, k0_dev12_lt c h₉⟩ ⟨k0_dev14 c, k0_dev14_lt c h₁₁⟩) ?_ ?_
    · chain_rfl
    · rw [dev1_eq, dev2_eq, dev3_eq, dev4_eq, dev6_eq, dev8_eq, dev10_eq, dev12_eq, dev14_eq]; unfold canon; rw [h]

end Cert.Attn
-- ==== Proof.Store.lean ====
/-
# What the gathered buffers hold, and how the slots and heads of a buffer are read and written

A gathered buffer holds four blocks, one per slot. Slot `s` of the buffer `b` on device `c` is to hold the block of the
device `s` places before `c` along the ring, taken from `c`'s own ring or from its partner's. The numerator and
denominator buffers are sixteen heads of columns, filled head by head.
-/
module

public import proofs.«01_k».proof.Proof.Canon
public import Idealize.ShloMosaic.Lib.ValueLayout

@[expose] public section

noncomputable section

namespace Cert.Attn

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging copies' and the exchange's (duties named by three) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Blocks and gathered contents -/

/-- A device's block of an array. -/
abbrev Blk (α : Type) : Type := S4x256x1024.Idx → α
/-- One head's columns of a block. -/
abbrev Cols (α : Type) : Type := S4x256x64.Idx → α
/-- A gathered buffer's contents. -/
abbrev Wide (α : Type) : Type := S4x4x256x1024.Idx → α

/-- The gathered contents with the given blocks. -/
def wide {α : Type} (B : Fin 4 → Blk α) : Wide α := fun i => B (i 0) (ix3 (i 1) (i 2) (i 3))

/-- The device `s` places before `c` along the ring. -/
def back : Fin 4 → Dev nD → Dev nD
  | 0, c => c
  | 1, c => prv c
  | 2, c => prv (prv c)
  | 3, c => prv (prv (prv c))

/-- The device whose block slot `s` of the buffer `b` on device `c` holds: reached along `c`'s own ring if `c` rings that
    buffer (and for its own block), else along its partner's. -/
def srcDev (b : Bool) (c : Dev nD) (s : Fin 4) : Dev nD := if s = 0 ∨ ev c = b then back s c else back s (par c)

theorem srcDev_ring (c : Dev nD) (h : Fin 3) : srcDev (ev c) (nxt c) h.succ = srcDev (ev c) c h.castSucc := by
  revert c h; decide
theorem srcDev_par (c : Dev nD) (h : Fin 3) : srcDev (ev c) (par c) h.succ = srcDev (ev c) c h.succ := by
  revert c h; decide

/-- The elements of slot `s`. -/
def slotSet (s : Fin 4) : Finset S4x4x256x1024.Idx := Finset.univ.filter fun i => (i 0).val = s.val

theorem mem_slotSet {s : Fin 4} {i : S4x4x256x1024.Idx} : i ∈ slotSet s ↔ (i 0).val = s.val := by
  unfold slotSet; rw [Finset.mem_filter]; exact ⟨fun h => h.2, fun h => ⟨Finset.mem_univ _, h⟩⟩

theorem slotSet_disjoint (s t : Fin 4) (h : s ≠ t) : Disjoint (slotSet s) (slotSet t) :=
  Finset.disjoint_left.mpr fun i hi hj => h (Fin.ext ((mem_slotSet.mp hi).symm.trans (mem_slotSet.mp hj)))

theorem slotSet_cover : (Finset.univ : Finset (Fin 4)).biUnion slotSet = Finset.univ :=
  Finset.eq_univ_iff_forall.mpr fun i => Finset.mem_biUnion.mpr ⟨i 0, Finset.mem_univ _, mem_slotSet.mpr rfl⟩

/-- The element of a gathered buffer under an index of slot `s`. -/
def slotIx (s : Fin 4) (x : S4x256x1024.Idx) : S4x4x256x1024.Idx := ix4 s (x 0) (x 1) (x 2)

theorem slot_emb (s : Fin 4) (x : S4x256x1024.Idx) :
    (Rect.unit (s := S4x4x256x1024) ![s.val, 0, 0, 0] S1x4x256x1024.size (inb_slot s)).emb
      (Shape.reshapeEquiv (s := S1x4x256x1024) (s' := S4x256x1024) squeezes_S1x4x256x1024_S4x256x1024.numel_eq x) = slotIx s x := by
  rw [show Shape.reshapeEquiv (s := S1x4x256x1024) (s' := S4x256x1024) squeezes_S1x4x256x1024_S4x256x1024.numel_eq x
    = Fin.cons ⟨0, Nat.one_pos⟩ x from Shape.reshapeEquiv_cons_one (d := ![4, 256, 1024]) squeezes_S1x4x256x1024_S4x256x1024.numel_eq x]
  funext a
  refine Fin.ext ?_
  rw [Rect.emb_apply]
  match a with
  | ⟨0, _⟩ => exact rfl
  | ⟨1, _⟩ => exact (Nat.zero_add _).trans (Nat.one_mul _)
  | ⟨2, _⟩ => exact (Nat.zero_add _).trans (Nat.one_mul _)
  | ⟨3, _⟩ => exact (Nat.zero_add _).trans (Nat.one_mul _)

theorem slotIx_of_mem {s : Fin 4} {i : S4x4x256x1024.Idx} (h : i ∈ slotSet s) : slotIx s (ix3 (i 1) (i 2) (i 3)) = i := by
  funext a
  refine Fin.ext ?_
  match a with
  | ⟨0, _⟩ => exact (mem_slotSet.mp h).symm
  | ⟨1, _⟩ => rfl
  | ⟨2, _⟩ => rfl
  | ⟨3, _⟩ => rfl

theorem wide_slotIx {α : Type} (B : Fin 4 → Blk α) (s : Fin 4) (x : S4x256x1024.Idx) : wide B (slotIx s x) = B s x :=
  congrArg (B s) (funext fun a => Fin.ext (by
    match a with
    | ⟨0, _⟩ => rfl
    | ⟨1, _⟩ => rfl
    | ⟨2, _⟩ => rfl))

theorem slot_mem (s : Fin 4) (i : S4x4x256x1024.Idx) :
    i ∈ (Rect.unit (s := S4x4x256x1024) ![s.val, 0, 0, 0] S1x4x256x1024.size (inb_slot s)).set ↔ i ∈ slotSet s := by
  rw [Rect.mem_set_unit, mem_slotSet]
  constructor
  · intro h
    have h0 := h 0
    have h1 : s.val ≤ (i 0).val := h0.1
    have h2 : (i 0).val < s.val + 1 := h0.2
    omega
  · intro h a
    match a with
    | ⟨0, _⟩ => exact ⟨show s.val ≤ (i 0).val from h.symm.le, show (i 0).val < s.val + 1 by omega⟩
    | ⟨1, _⟩ => exact ⟨Nat.zero_le _, (i 1).isLt.trans_le (Nat.le_add_left _ _)⟩
    | ⟨2, _⟩ => exact ⟨Nat.zero_le _, (i 2).isLt.trans_le (Nat.le_add_left _ _)⟩
    | ⟨3, _⟩ => exact ⟨Nat.zero_le _, (i 3).isLt.trans_le (Nat.le_add_left _ _)⟩

/-- The elements under a slot's view, -/
theorem slot_set_k (s : Fin 4) : (slotOf (buf true) s).view.set = (slotSet s : Finset cc0_scratch0.ty.Idx) :=
  (View.set_reshape _ _).trans ((View.set_slice_whole cc0_scratch0 _).trans (Finset.ext fun i => slot_mem s i))
theorem slot_set_v (s : Fin 4) : (slotOf (buf false) s).view.set = (slotSet s : Finset cc0_scratch1.ty.Idx) :=
  (View.set_reshape _ _).trans ((View.set_slice_whole cc0_scratch1 _).trans (Finset.ext fun i => slot_mem s i))

/-- what it reads, -/
theorem slot_read_k (s : Fin 4) (B : Fin 4 → Blk (Elt F .bf16)) : (slotOf (buf true) s).view.read (Elt F) (wide B) = B s :=
  funext fun x => (congrArg (wide B) (slot_emb s x)).trans (wide_slotIx B s x)
theorem slot_read_v (s : Fin 4) (B : Fin 4 → Blk (Elt F .bf16)) : (slotOf (buf false) s).view.read (Elt F) (wide B) = B s :=
  funext fun x => (congrArg (wide B) (slot_emb s x)).trans (wide_slotIx B s x)

/-- and what it holds once a block is written through it. -/
theorem slot_write_k (s : Fin 4) (B : Fin 4 → Blk (Elt F .bf16)) (g : Wide (Elt F .bf16)) (i : S4x4x256x1024.Idx) (hi : i ∈ slotSet s) :
    (slotOf (buf true) s).view.write (Elt F) g (B s) Finset.univ i = wide B i := by
  rw [← slotIx_of_mem hi, wide_slotIx]
  exact (congrArg ((slotOf (buf true) s).view.write (Elt F) g (B s) Finset.univ) (slot_emb s _).symm).trans
    (View.write_emb_of_mem (v := (slotOf (buf true) s).view) (Val := Elt F) g (B s) (Finset.mem_univ _))
theorem slot_write_v (s : Fin 4) (B : Fin 4 → Blk (Elt F .bf16)) (g : Wide (Elt F .bf16)) (i : S4x4x256x1024.Idx) (hi : i ∈ slotSet s) :
    (slotOf (buf false) s).view.write (Elt F) g (B s) Finset.univ i = wide B i := by
  rw [← slotIx_of_mem hi, wide_slotIx]
  exact (congrArg ((slotOf (buf false) s).view.write (Elt F) g (B s) Finset.univ) (slot_emb s _).symm).trans
    (View.write_emb_of_mem (v := (slotOf (buf false) s).view) (Val := Elt F) g (B s) (Finset.mem_univ _))

/-! ## Heads of a block -/

/-- Head `h` of a block's column index, and the column within. -/
def headIx (h : Fin 16) (x : S4x256x64.Idx) : S4x256x1024.Idx :=
  ix3 (x 0) (x 1) (⟨64 * h.val + (x 2).val, by have h2 : (x 2).val < 64 := (x 2).isLt; have := h.isLt; omega⟩ : Fin 1024)
def hd (i : S4x256x1024.Idx) : Fin 16 := ⟨(i 2).val / 64, by have h2 : (i 2).val < 1024 := (i 2).isLt; omega⟩
def lane (i : S4x256x1024.Idx) : S4x256x64.Idx := ix3 (i 0) (i 1) (⟨(i 2).val % 64, Nat.mod_lt _ (by decide)⟩ : Fin 64)

theorem headIx_hd (i : S4x256x1024.Idx) : headIx (hd i) (lane i) = i := by
  funext a
  refine Fin.ext ?_
  match a with
  | ⟨0, _⟩ => rfl
  | ⟨1, _⟩ => rfl
  | ⟨2, _⟩ => exact Nat.div_add_mod (i 2).val 64
theorem hd_headIx (h : Fin 16) (x : S4x256x64.Idx) : hd (headIx h x) = h :=
  Fin.ext (by
    have h2 : (x 2).val < 64 := (x 2).isLt
    show (64 * h.val + (x 2).val) / 64 = h.val
    omega)
theorem lane_headIx (h : Fin 16) (x : S4x256x64.Idx) : lane (headIx h x) = x := by
  funext a
  refine Fin.ext ?_
  match a with
  | ⟨0, _⟩ => rfl
  | ⟨1, _⟩ => rfl
  | ⟨2, _⟩ =>
    have h2 : (x 2).val < 64 := (x 2).isLt
    show (64 * h.val + (x 2).val) % 64 = (x 2).val
    omega

/-- A block's columns at a head. -/
def colsOf {α : Type} (X : Blk α) (h : Fin 16) : Cols α := fun x => X (headIx h x)
/-- The same behind a unit axis, as a load of one slot gives it. -/
def scolsOf {α : Type} (X : Blk α) (h : Fin 16) : S1x4x256x64.Idx → α := fun x => X (headIx h (ix3 (x 1) (x 2) (x 3)))
/-- The block with given columns at each head. -/
def assemble {α : Type} (f : Fin 16 → Cols α) : Blk α := fun i => f (hd i) (lane i)

theorem colsOf_assemble {α : Type} (f : Fin 16 → Cols α) (h : Fin 16) : colsOf (assemble f) h = f h :=
  funext fun x => by show f (hd (headIx h x)) (lane (headIx h x)) = f h x; rw [hd_headIx, lane_headIx]

/-- `old` at the heads still to come, `new` at the others. -/
def mixed {α : Type} (hs : List (Fin 16)) (new old : Blk α) : Blk α := fun i => if hd i ∈ hs then old i else new i

theorem mixed_all {α : Type} (new old : Blk α) : mixed allHeads new old = old :=
  funext fun i => if_pos (by have : ∀ h : Fin 16, h ∈ allHeads := by decide
                             exact this _)
theorem mixed_nil {α : Type} (new old : Blk α) : mixed [] new old = new :=
  funext fun i => if_neg (by simp)

theorem colsOf_mixed {α : Type} (h : Fin 16) (hs : List (Fin 16)) (new old : Blk α) :
    colsOf (mixed (h :: hs) new old) h = colsOf old h :=
  funext fun x => if_pos (by rw [hd_headIx]; exact List.mem_cons_self)

/-- The rectangle of head `h`'s columns. -/
abbrev rHead (h : Fin 16) : Rect S4x256x1024 := Rect.unit (s := S4x256x1024) ![0, 0, 64 * h.val] S4x256x64.size (inb_head h)
/-- The rectangle of head `h`'s columns in slot `s`. -/
abbrev rSHead (s : Fin 4) (h : Fin 16) : Rect S4x4x256x1024 :=
  Rect.unit (s := S4x4x256x1024) ![s.val, 0, 0, 64 * h.val] S1x4x256x64.size (inb_shead s h)

theorem rHead_emb (h : Fin 16) (x : S4x256x64.Idx) : (rHead h).emb x = headIx h x := by
  funext a
  refine Fin.ext ?_
  rw [Rect.emb_apply]
  match a with
  | ⟨0, _⟩ => exact (Nat.zero_add _).trans (Nat.one_mul _)
  | ⟨1, _⟩ => exact (Nat.zero_add _).trans (Nat.one_mul _)
  | ⟨2, _⟩ => exact congrArg (64 * h.val + ·) (Nat.one_mul _)

theorem rSHead_emb (s : Fin 4) (h : Fin 16) (x : S1x4x256x64.Idx) :
    (rSHead s h).emb x = slotIx s (headIx h (ix3 (x 1) (x 2) (x 3))) := by
  funext a
  refine Fin.ext ?_
  rw [Rect.emb_apply]
  match a with
  | ⟨0, _⟩ =>
    have h0 : (x 0).val < 1 := (x 0).isLt
    show s.val + 1 * (x 0).val = s.val
    omega
  | ⟨1, _⟩ => exact (Nat.zero_add _).trans (Nat.one_mul _)
  | ⟨2, _⟩ => exact (Nat.zero_add _).trans (Nat.one_mul _)
  | ⟨3, _⟩ => exact congrArg (64 * h.val + ·) (Nat.one_mul _)

/-- A load of a head's columns reads them. -/
theorem read_head_q (h : Fin 16) (X : Blk (Elt F .bf16)) : qBuf.view.readAt (Elt F) (rHead h).toLoadRect X = colsOf X h :=
  funext fun x => congrArg X (rHead_emb h x)
theorem read_head_a (h : Fin 16) (X : Blk (Elt F .f32)) : accB.view.readAt (Elt F) (rHead h).toLoadRect X = colsOf X h :=
  funext fun x => congrArg X (rHead_emb h x)
theorem read_head_l (h : Fin 16) (X : Blk (Elt F .f32)) : lB.view.readAt (Elt F) (rHead h).toLoadRect X = colsOf X h :=
  funext fun x => congrArg X (rHead_emb h x)
theorem read_shead_k (s : Fin 4) (h : Fin 16) (B : Fin 4 → Blk (Elt F .bf16)) :
    (buf true).view.readAt (Elt F) (rSHead s h).toLoadRect (wide B) = scolsOf (B s) h :=
  funext fun x => congrArg (wide B) (rSHead_emb s h x)
theorem read_shead_v (s : Fin 4) (h : Fin 16) (B : Fin 4 → Blk (Elt F .bf16)) :
    (buf false).view.readAt (Elt F) (rSHead s h).toLoadRect (wide B) = scolsOf (B s) h :=
  funext fun x => congrArg (wide B) (rSHead_emb s h x)

/-- A store of the new columns at the head that comes first leaves the later heads old. -/
theorem write_head_a (h : Fin 16) (hs : List (Fin 16)) (hn : (h :: hs).Nodup) (new old : Blk (Elt F .f32)) :
    (accB.access (rHead h)).write (Elt F) (mixed (h :: hs) new old) (colsOf new h) Finset.univ = mixed hs new old :=
  funext fun i => by
    by_cases e : hd i = h
    · have hi : (accB.access (rHead h)).emb (lane i) = i := (rHead_emb h (lane i)).trans (by rw [← e]; exact headIx_hd i)
      refine (congrArg ((accB.access (rHead h)).write (Elt F) (mixed (h :: hs) new old) (colsOf new h) Finset.univ) hi.symm).trans
        ((View.write_emb_of_mem (v := accB.access (rHead h)) (Val := Elt F) _ (colsOf new h) (Finset.mem_univ _)).trans ?_)
      show new (headIx h (lane i)) = mixed hs new old i
      have hn' : hd i ∉ hs := by rw [e]; exact (List.nodup_cons.mp hn).1
      rw [show mixed hs new old i = new i from if_neg hn', ← e, headIx_hd]
    · refine (View.write_of_not_mem (v := accB.access (rHead h)) (Val := Elt F) _ (colsOf new h) Finset.univ ?_).trans ?_
      · intro hm
        obtain ⟨x, -, hx⟩ := Finset.mem_map.mp hm
        exact e (by rw [← show headIx h x = i from (rHead_emb h x).symm.trans hx, hd_headIx])
      · show (if hd i ∈ h :: hs then old i else new i) = if hd i ∈ hs then old i else new i
        have : (hd i ∈ h :: hs) = (hd i ∈ hs) := by rw [List.mem_cons, eq_iff_iff]; exact ⟨fun o => o.resolve_left e, Or.inr⟩
        simp only [this]
theorem write_head_l (h : Fin 16) (hs : List (Fin 16)) (hn : (h :: hs).Nodup) (new old : Blk (Elt F .f32)) :
    (lB.access (rHead h)).write (Elt F) (mixed (h :: hs) new old) (colsOf new h) Finset.univ = mixed hs new old :=
  write_head_a h hs hn new old

/-! ## The contents as the kernel computes them -/

section Contents

variable (Q : Blk (Elt F .bf16)) (K V : Fin 4 → Blk (Elt F .bf16))

/-- The numerator after slots `0 … s`; -/
def accN : Nat → Blk (Elt F .f32)
  | 0 => assemble fun h => acc0 (colsOf Q h) (scolsOf (K 0) h) (scolsOf (V 0) h)
  | s + 1 => assemble fun h => acc1 (colsOf Q h) (scolsOf (K (Fin.ofNat 4 (s + 1))) h) (scolsOf (V (Fin.ofNat 4 (s + 1))) h) (colsOf (accN s) h)
/-- the denominator. -/
def lN : Nat → Blk (Elt F .f32)
  | 0 => assemble fun h => l0 (colsOf Q h) (scolsOf (K 0) h)
  | s + 1 => assemble fun h => l1 (colsOf Q h) (scolsOf (K (Fin.ofNat 4 (s + 1))) h) (colsOf (lN s) h)

end Contents

end Cert.Attn
-- ==== Proof.Protocol.lean ====
/-
# The exchange's protocol

Each device signals its two neighbours along the ring and its partner, handing its slots 1–3 of the buffer it rings to
the device before it and those of the other buffer to its partner; after three units of its own it may write into
theirs. A ring copy lands in the next device's slot, a partner copy in the partner's; each receive semaphore is paid by
one copy, and each send semaphore gives back the share of the source lent to its copy.
-/
module

public import proofs.«01_k».proof.Proof.Store
public import Idealize.ShloMosaic.Lib.Ring

@[expose] public section

noncomputable section

namespace Cert.Attn

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Holding a slot -/

/-- Slot `s` of the buffer `b` on device `c`, at share `q`, holding the contents `g` there. -/
def slotPts (b : Bool) (c : Dev nD) (s : Fin 4) (q : PosShare TreeShare) (g : Wide (Elt F .bf16)) : sProp 𝕄 :=
  match b with
  | true => ((c : Thread nD τ).loc cc0_scratch0) ↦[slotSet s]{q} g
  | false => ((c : Thread nD τ).loc cc0_scratch1) ↦[slotSet s]{q} g

/-- The whole buffer `b` on device `c`. -/
def bufPts (b : Bool) (c : Dev nD) (g : Wide (Elt F .bf16)) : sProp 𝕄 :=
  match b with
  | true => ((c : Thread nD τ).loc cc0_scratch0) ↦{fullShare} g
  | false => ((c : Thread nD τ).loc cc0_scratch1) ↦{fullShare} g

omit [FloatOps F] in
instance slotPts_storable (b : Bool) (c : Dev nD) (s : Fin 4) (q) (g) : BI.Storable (upEmb : UEmb _ 𝕄) (slotPts (F := F) b c s q g) := by
  unfold slotPts; split <;> infer_instance

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A buffer is its four slots. -/
theorem bufPts_slots (b : Bool) (c : Dev nD) (g : Wide (Elt F .bf16)) :
    bufPts b c g = iprop(slotPts b c 0 fullShare g ∗ slotPts b c 1 fullShare g ∗ slotPts b c 2 fullShare g ∗ slotPts b c 3 fullShare g) := by
  rw [← bigSep_fin4 fun s => slotPts b c s fullShare g]
  cases b
  · exact Ring.pointsTo_blocks (ℓ := (c : Thread nD τ).loc cc0_scratch1) slotSet slotSet_disjoint slotSet_cover g
  · exact Ring.pointsTo_blocks (ℓ := (c : Thread nD τ).loc cc0_scratch0) slotSet slotSet_disjoint slotSet_cover g

omit [FloatOps F] in
/-- Only the contents in the slot matter. -/
theorem slotPts_congr (b : Bool) (c : Dev nD) (s : Fin 4) (q : PosShare TreeShare) (f g : Wide (Elt F .bf16)) (h : ∀ i ∈ slotSet s, f i = g i) :
    slotPts b c s q f = slotPts b c s q g := by
  cases b
  · exact pointsTo_congr (ℓ := (c : Thread nD τ).loc cc0_scratch1) h
  · exact pointsTo_congr (ℓ := (c : Thread nD τ).loc cc0_scratch0) h

/-- The share kept to read a slot, the share lent to a ring copy, the share lent to a partner copy. -/
abbrev qKeep : PosShare TreeShare := fullShare.left
abbrev qLend : Fin 2 → PosShare TreeShare
  | 0 => fullShare.right.left
  | 1 => fullShare.right.right

omit [FloatOps F] in
theorem pts_shares (ℓ : Loc nD τ sig) (I : Finset (Idx ℓ)) (f : Buf (Elt F) ℓ) :
    (ℓ ↦[I]{fullShare} f : sProp 𝕄) = iprop((ℓ ↦[I]{qKeep} f) ∗ (ℓ ↦[I]{qLend 0} f) ∗ ℓ ↦[I]{qLend 1} f) := by
  have h₁ : (ℓ ↦[I]{fullShare} f : sProp 𝕄) = iprop((ℓ ↦[I]{fullShare.left} f) ∗ ℓ ↦[I]{fullShare.right} f) :=
    have h := pointsTo_share (PosShare.mem_left_op_right fullShare); BI.equiv_iff.mp ⟨h.1, h.2⟩
  have h₂ : (ℓ ↦[I]{fullShare.right} f : sProp 𝕄) = iprop((ℓ ↦[I]{fullShare.right.left} f) ∗ ℓ ↦[I]{fullShare.right.right} f) :=
    have h := pointsTo_share (PosShare.mem_left_op_right fullShare.right); BI.equiv_iff.mp ⟨h.1, h.2⟩
  rw [h₁, h₂]

omit [FloatOps F] in
/-- A slot's full share is the three. -/
theorem slotPts_shares (b : Bool) (c : Dev nD) (s : Fin 4) (g : Wide (Elt F .bf16)) :
    slotPts b c s fullShare g = iprop(slotPts b c s qKeep g ∗ slotPts b c s (qLend 0) g ∗ slotPts b c s (qLend 1) g) := by
  cases b
  · exact pts_shares ((c : Thread nD τ).loc cc0_scratch1) (slotSet s) g
  · exact pts_shares ((c : Thread nD τ).loc cc0_scratch0) (slotSet s) g

/-! ## Cells -/

/-- A device's cells: the barrier's, a send's and a receive's for each hop and direction. -/
abbrev CI : Type := Option (Bool × Fin 3 × Fin 2)

abbrev csem : CI → SemLoc sig
  | none => .reg barS
  | some (false, h, j) => .dma (sSem h j)
  | some (true, h, j) => .dma (rSem h j)
abbrev osem (k : Bool × Fin 3 × Fin 2) : SemLoc sig := csem (some k)

abbrev barCell (c : Dev nD) : GSem nD τ sig := ((c : Thread nD τ), .reg barS)
abbrev sendCell (c : Dev nD) (h : Fin 3) (j : Fin 2) : GSem nD τ sig := ((c : Thread nD τ), .dma (sSem h j))
abbrev recvCell (c : Dev nD) (h : Fin 3) (j : Fin 2) : GSem nD τ sig := ((c : Thread nD τ), .dma (rSem h j))
abbrev kcell (ck : Dev nD × CI) : GSem nD τ sig := ((ck.1 : Thread nD τ), csem ck.2)

/-- Which cell of a device a semaphore is. -/
def kindOf : SemLoc sig → Option CI
  | .reg _ => some none
  | .dma q =>
    if q.val < 4 then none
    else if q.val < 10 then some (some (false, ⟨(q.val - 4) / 2 % 3, Nat.mod_lt _ (by decide)⟩, ⟨q.val % 2, Nat.mod_lt _ (by decide)⟩))
    else some (some (true, ⟨(q.val - 10) / 2 % 3, Nat.mod_lt _ (by decide)⟩, ⟨q.val % 2, Nat.mod_lt _ (by decide)⟩))

theorem kindOf_bar : kindOf (.reg barS) = some none := rfl
theorem kindOf_send (h : Fin 3) (j : Fin 2) : kindOf (.dma (sSem h j)) = some (some (false, h, j)) := by revert h j; decide
theorem kindOf_recv (h : Fin 3) (j : Fin 2) : kindOf (.dma (rSem h j)) = some (some (true, h, j)) := by revert h j; decide
theorem kindOf_csem : (k : CI) → kindOf (csem k) = some k
  | none => rfl
  | some (false, h, j) => kindOf_send h j
  | some (true, h, j) => kindOf_recv h j
theorem csem_injective : Function.Injective csem := fun a b h => by
  have := congrArg kindOf h; rw [kindOf_csem, kindOf_csem] at this; exact Option.some.inj this

/-- A copy's credit: one slot's. -/
abbrev N : ℕ := (slotOf (Memref.whole cc0_scratch0) 0).view.dmaCredit
theorem N_pos : 0 < N := View.dmaCredit_pos _ (by decide)

/-! ## Payloads -/

section Payloads

variable (kv : Bool → Dev nD → Blk (Elt F .bf16))

/-- What the gathered buffer `b` on device `c` is to hold. -/
def gath (b : Bool) (c : Dev nD) : Wide (Elt F .bf16) := wide fun s => kv b (srcDev b c s)

/-- The device a copy of direction `j` goes to: along the ring, or the partner. -/
def peer : Fin 2 → Dev nD → Dev nD
  | 0 => nxt
  | 1 => par
/-- The device it comes from. -/
def peer' : Fin 2 → Dev nD → Dev nD
  | 0 => prv
  | 1 => par
/-- The slot it leaves from at hop `h`. -/
def srcSlot (h : Fin 3) : Fin 2 → Fin 4
  | 0 => h.castSucc
  | 1 => h.succ
/-- The buffer it lands in on device `c`. -/
def inBuf (c : Dev nD) : Fin 2 → Bool
  | 0 => ev c
  | 1 => !ev c

theorem peer_peer' (j : Fin 2) (c : Dev nD) : peer j (peer' j c) = c := by revert j c; decide
theorem peer'_peer (j : Fin 2) (c : Dev nD) : peer' j (peer j c) = c := by revert j c; decide
theorem inBuf_peer (j : Fin 2) (c : Dev nD) : inBuf (peer j c) j = ev c := by revert j c; decide
theorem srcDev_peer (c : Dev nD) (h : Fin 3) (j : Fin 2) : srcDev (ev c) (peer j c) h.succ = srcDev (ev c) c (srcSlot h j) := by
  revert c h j; decide

/-- Slots 1–3 of a buffer, at some contents. -/
def slots3 (b : Bool) (c : Dev nD) : sProp 𝕄 :=
  iprop(∃ g : Wide (Elt F .bf16), slotPts b c 1 fullShare g ∗ slotPts b c 2 fullShare g ∗ slotPts b c 3 fullShare g)

/-- What `peer j c` hands `c`: its slots of the buffer `c` rings, and that its receive cells stand at their first round. -/
def barPay (c : Dev nD) (j : Fin 2) : sProp 𝕄 :=
  iprop(slots3 (ev c) (peer j c) ∗ reached ER (recvCell (peer j c) 0 j) 0 ∗ reached ER (recvCell (peer j c) 1 j) 0 ∗ reached ER (recvCell (peer j c) 2 j) 0)
def recvPay (c : Dev nD) (h : Fin 3) (j : Fin 2) : sProp 𝕄 := slotPts (inBuf c j) c h.succ fullShare (gath kv (inBuf c j) c)
def sendPay (c : Dev nD) (h : Fin 3) (j : Fin 2) : sProp 𝕄 := slotPts (ev c) c (srcSlot h j) (qLend j) (gath kv (ev c) c)

/-- The payload of a cell's duty: the barrier's duties are from the next device, from the partner and, with nothing, from
    the device before. -/
def payOf (c : Dev nD) : Option CI → Fin 3 → sProp 𝕄
  | some none, 0 => barPay c 0
  | some none, 1 => barPay c 1
  | some none, 2 => iprop(emp)
  | some (some (false, h, j)), _ => sendPay kv c h j
  | some (some (true, h, j)), _ => recvPay kv c h j
  | none, _ => iprop(emp)

omit [FloatOps F] in
instance slots3_storable (b : Bool) (c : Dev nD) : BI.Storable (upEmb : UEmb _ 𝕄) (slots3 (F := F) b c) := by unfold slots3; infer_instance
omit [FloatOps F] in
instance payOf_storable (c : Dev nD) (k : Option CI) (d : Fin 3) : BI.Storable (upEmb : UEmb _ 𝕄) (payOf kv c k d) := by
  unfold payOf barPay recvPay sendPay; split <;> infer_instance

/-- One round: a barrier cell has three duties of a unit each, a send or receive cell one of a slot's credit. -/
def sched : Rounds.Schedule (GSem nD τ sig) (Fin 3) 𝕄 where
  duties g r := if r = 0 ∧ g.1.2 = .tc then (match kindOf g.2 with | some none => Finset.univ | some (some _) => {0} | none => ∅) else ∅
  unitless _ := False
  amount g _ _ := match kindOf g.2 with | some none => 1 | _ => N
  payload g _ d := payOf kv g.1.1 (kindOf g.2) d
  amount_pos g _ _ _ := by
    split
    · exact Nat.one_pos
    · exact N_pos

omit [FloatOps F] in
instance sched_storable (g : GSem nD τ sig) (r : ℕ) (d : Fin 3) : BI.Storable (upEmb : UEmb _ 𝕄) ((sched kv).payload g r d) :=
  payOf_storable kv _ _ _

section Sched
variable (c : Dev nD) (h : Fin 3) (j : Fin 2)

omit [FloatOps F] in
theorem duties_bar : (sched kv).duties (barCell c) 0 = Finset.univ := by
  dsimp only [sched]; rw [if_pos ⟨rfl, rfl⟩, kindOf_bar]
omit [FloatOps F] in
theorem duties_send : (sched kv).duties (sendCell c h j) 0 = {0} := by
  dsimp only [sched]; rw [if_pos ⟨rfl, rfl⟩, kindOf_send]
omit [FloatOps F] in
theorem duties_recv : (sched kv).duties (recvCell c h j) 0 = {0} := by
  dsimp only [sched]; rw [if_pos ⟨rfl, rfl⟩, kindOf_recv]
omit [FloatOps F] in
theorem duties_later (g : GSem nD τ sig) : ∀ r, 1 ≤ r → (sched kv).duties g r = ∅ :=
  fun r hr => if_neg fun h => by omega

omit [FloatOps F] in
theorem amount_bar (d : Fin 3) : (sched kv).amount (barCell c) 0 d = 1 := rfl
omit [FloatOps F] in
theorem amount_send (d : Fin 3) : (sched kv).amount (sendCell c h j) 0 d = N := by dsimp only [sched]; rw [kindOf_send]
omit [FloatOps F] in
theorem amount_recv (d : Fin 3) : (sched kv).amount (recvCell c h j) 0 d = N := by dsimp only [sched]; rw [kindOf_recv]

omit [FloatOps F] in
theorem expect_bar : (sched kv).expect (barCell c) 0 = 3 := by
  unfold Schedule.expect Schedule.amountOf
  rw [duties_bar, Finset.sum_congr rfl fun d _ => amount_bar kv c d, Finset.sum_const, Finset.card_univ, Fintype.card_fin, smul_eq_mul]
omit [FloatOps F] in
theorem expect_send : (sched kv).expect (sendCell c h j) 0 = N := by
  unfold Schedule.expect Schedule.amountOf; rw [duties_send, Finset.sum_singleton, amount_send]
omit [FloatOps F] in
theorem expect_recv : (sched kv).expect (recvCell c h j) 0 = N := by
  unfold Schedule.expect Schedule.amountOf; rw [duties_recv, Finset.sum_singleton, amount_recv]

omit [FloatOps F] in
theorem payload_bar (d : Fin 3) : (sched kv).payload (barCell c) 0 d = payOf kv c (some none) d := rfl
omit [FloatOps F] in
theorem payload_send (d : Fin 3) : (sched kv).payload (sendCell c h j) 0 d = sendPay kv c h j := by dsimp only [sched]; rw [kindOf_send]; rfl
omit [FloatOps F] in
theorem payload_recv (d : Fin 3) : (sched kv).payload (recvCell c h j) 0 d = recvPay kv c h j := by dsimp only [sched]; rw [kindOf_recv]; rfl

omit [FloatOps F] in
theorem rest_bar : bigSep ((sched kv).duties (barCell c) 0 \ ∅) (fun d => (sched kv).payload (barCell c) 0 d) = iprop(barPay c 0 ∗ barPay c 1 ∗ emp) := by
  rw [Finset.sdiff_empty, duties_bar, bigSep_univ_eq_bigSepL [0, 1, 2] (by decide) (by decide), bigSepL_cons_cons, bigSepL_cons_cons, bigSepL_singleton]
  rfl
omit [FloatOps F] in
theorem rest_send : bigSep ((sched kv).duties (sendCell c h j) 0 \ ∅) (fun d => (sched kv).payload (sendCell c h j) 0 d) = sendPay kv c h j := by
  rw [Finset.sdiff_empty, duties_send, bigSep_singleton, payload_send]
omit [FloatOps F] in
theorem rest_recv : bigSep ((sched kv).duties (recvCell c h j) 0 \ ∅) (fun d => (sched kv).payload (recvCell c h j) 0 d) = recvPay kv c h j := by
  rw [Finset.sdiff_empty, duties_recv, bigSep_singleton, payload_recv]

end Sched

end Payloads

/-! ## What each device owes; the levels -/

/-- The six copies in the order they are sent. -/
abbrev hops : List (Fin 3 × Fin 2) := [(0, 0), (0, 1), (1, 0), (1, 1), (2, 0), (2, 1)]

/-- What a device owes for a list of copies still to send, the first last. -/
def pend (c : Dev nD) : List (Fin 3 × Fin 2) → CellTallies nD τ sig Unit
  | [] => 0
  | p :: l => pend c l + tallyAt (recvCell (peer p.2 c) p.1 p.2) () N

/-- At launch: the six copies, and a unit to the partner, the next and the previous device. -/
def O₂ (c : Dev nD) : CellTallies nD τ sig Unit := pend c hops + tallyAt (barCell (par c)) () 1
def O₁ (c : Dev nD) : CellTallies nD τ sig Unit := O₂ c + tallyAt (barCell (nxt c)) () 1
def O₀ (c : Dev nD) : CellTallies nD τ sig Unit := O₁ c + tallyAt (barCell (prv c)) () 1

def L (g : GSem nD τ sig) : Finset Unit := if g.1.2 = .tc then {()} else ∅
/-- The level of a semaphore: the barrier's 1, a receive's in the order of the hops, the rest 0. -/
def lvl : SemLoc sig → ℕ
  | .reg _ => 1
  | .dma q => if 10 ≤ q.val then q.val else 0
def lv (g : GSem nD τ sig) (_ : Unit) : ℕ := lvl g.2

theorem lvl_recv (h : Fin 3) (j : Fin 2) : lvl (.dma (rSem h j)) = 10 + 2 * h.val + j.val := by revert h j; decide
theorem lvl_send (h : Fin 3) (j : Fin 2) : lvl (.dma (sSem h j)) = 0 := by revert h j; decide

theorem L_of_ne (g : GSem nD τ sig) (h : g.1.2 ≠ .tc) : L g = ∅ := if_neg h
theorem L_tc (c : Dev nD) (sm : SemLoc sig) : L ((c : Thread nD τ), sm) = {()} := if_pos rfl

theorem pend_pos {c : Dev nD} {l : List (Fin 3 × Fin 2)} {g : GSem nD τ sig} {u : Unit} (h : 0 < pend c l g u) :
    ∃ p ∈ l, g = recvCell (peer p.2 c) p.1 p.2 := by
  induction l with
  | nil => exact absurd h (Nat.lt_irrefl 0)
  | cons p l ih =>
    unfold pend at h
    rw [Pi.add_apply, Finsupp.add_apply, tallyAt_apply] at h
    by_cases e : g = recvCell (peer p.2 c) p.1 p.2 ∧ u = ()
    · exact ⟨p, List.mem_cons_self, e.1⟩
    · rw [if_neg e, Nat.add_zero] at h
      obtain ⟨p', hp, hg⟩ := ih h
      exact ⟨p', List.mem_cons_of_mem _ hp, hg⟩

theorem pos_of_add {O : CellTallies nD τ sig Unit} {g g' : GSem nD τ sig} {n : ℕ} {u : Unit} (h : 0 < (O + tallyAt g' () n) g u) :
    0 < O g u ∨ g = g' := by
  rw [Pi.add_apply, Finsupp.add_apply, tallyAt_apply] at h
  by_cases e : g = g' ∧ u = ()
  · exact Or.inr e.1
  · rw [if_neg e, Nat.add_zero] at h; exact Or.inl h

theorem O₀_pos {c : Dev nD} {g : GSem nD τ sig} {u : Unit} (h : 0 < O₀ c g u) :
    (∃ p ∈ hops, g = recvCell (peer p.2 c) p.1 p.2) ∨ ∃ d, g = barCell d := by
  unfold O₀ at h
  rcases pos_of_add h with h | e
  · unfold O₁ at h
    rcases pos_of_add h with h | e
    · unfold O₂ at h
      rcases pos_of_add h with h | e
      · exact Or.inl (pend_pos h)
      · exact Or.inr ⟨_, e⟩
    · exact Or.inr ⟨_, e⟩
  · exact Or.inr ⟨_, e⟩

omit [FloatOps F] in
/-- A wait on a cell below all those still owed. -/
theorem mayWait_pend (c : Dev nD) (sm : SemLoc sig) (l : List (Fin 3 × Fin 2)) (hl : ∀ p ∈ l, lvl sm < lvl (.dma (rSem p.1 p.2))) :
    (levAts L lv : sProp 𝕄) ⊢ MayWait (c : Thread nD τ) sm () (pend c l) :=
  MayOwe.of_cut (L := L) (lev := lv) (lvl sm) (fun p hp => by rw [Finset.mem_singleton.mp hp, L_tc]; exact Finset.mem_singleton_self _)
    (fun g u hg => by obtain ⟨p, hp, rfl⟩ := pend_pos hg; rw [L_tc]; exact Finset.mem_singleton_self _)
    (fun p hp => by rw [Finset.mem_singleton.mp hp]; exact Nat.le_refl _)
    (fun g u hg => by obtain ⟨p, hp, rfl⟩ := pend_pos hg; exact hl p hp)

omit [FloatOps F] in
/-- The staging copies' waits. -/
theorem mayWait_stage (c : Dev nD) (q : DmaSem sig) (hq : lvl (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, -, rfl⟩ | ⟨d, rfl⟩ <;> (rw [L_tc]; exact Finset.mem_singleton_self _))
      (fun p hp => by rw [Finset.mem_singleton.mp hp]; exact hq.le)
      (fun g u hg => by
        rcases O₀_pos hg with ⟨p, -, rfl⟩ | ⟨d, rfl⟩
        · show 0 < lvl (.dma (rSem p.1 p.2)); rw [lvl_recv]; omega
        · exact Nat.one_pos)
  · rw [MayWait_zero]; iintro -; iempintro

end Cert.Attn
-- ==== Proof.Steps.lean ====
/-
# The rules for the body's steps

One rule per step of the program of `Canon`: a copy to a neighbour, a wait on a receive or send cell, one head's loads
and stores, and a stage of sixteen heads.
-/
module

public import proofs.«01_k».proof.Proof.Protocol

@[expose] public section

noncomputable section

namespace Cert.Attn

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program of device `c`. -/
abbrev wpc (c : Dev nD) {α : Type} (p : PU F α) (Q : α → sProp 𝕄) : sProp 𝕄 :=
  wp frame (wpE (defs₀ (F := F)) 𝒱₀ (c : Thread nD τ) none) Set.univ p Q

/-- What device `c` owes, whatever it has waited for. -/
def owing (c : Dev nD) (O : CellTallies nD τ sig Unit) : sProp 𝕄 := iprop(∃ W, owes (c : Thread nD τ) O W)

variable (kv : Bool → Dev nD → Blk (Elt F .bf16)) (K : Dev nD × CI → ℕ)

/-! ## Copies -/

omit [FloatOps F] in
theorem slotPts_view_k (c : Dev nD) (s : Fin 4) (q : PosShare TreeShare) (g : Wide (Elt F .bf16)) :
    slotPts true c s q g = ((slotOf (buf true) s).view.loc (c : Thread nD τ) ↦[(slotOf (buf true) s).view.set]{q} g : sProp 𝕄) := by
  rw [slot_set_k]; rfl
omit [FloatOps F] in
theorem slotPts_view_v (c : Dev nD) (s : Fin 4) (q : PosShare TreeShare) (g : Wide (Elt F .bf16)) :
    slotPts false c s q g = ((slotOf (buf false) s).view.loc (c : Thread nD τ) ↦[(slotOf (buf false) s).view.set]{q} g : sProp 𝕄) := by
  rw [slot_set_v]; rfl

/-- A copy of one slot of the buffer `b` into a slot of device `d`'s. -/
theorem wp_copy (c d : Dev nD) (b : Bool) (s t : Fin 4) (h : Fin 3) (j : Fin 2) (q : PosShare TreeShare)
    (fs : Buf (Elt F) ((slotOf (buf b) s).view.loc (c : Thread nD τ))) (fd : Buf (Elt F) ((slotOf (buf b) t).view.loc (d : Thread nD τ)))
    (O : CellTallies nD τ sig Unit) (W : Waits sig Unit)
    (hsnd : ((slotOf (buf b) s).view.loc (c : Thread nD τ) ↦[(slotOf (buf b) s).view.set]{q} fs : sProp 𝕄) ⊢ (sched kv).payload (sendCell c h j) 0 0)
    (hrec : ((slotOf (buf b) t).view.loc (d : Thread nD τ) ↦[(slotOf (buf b) t).view.set]{fullShare}
        ((slotOf (buf b) t).view.write (Elt F) fd ((slotOf (buf b) s).view.read (Elt F) fs) Finset.univ) : sProp 𝕄) ⊢ (sched kv).payload (recvCell d h j) 0 0)
    {α : Type} {Q : α → sProp 𝕄} {k : PUnit → PU F α} :
    iprop(cellInv ER (sched kv) (K (c, some (false, h, j))) (sendCell c h j) ∗ cellInv ER (sched kv) (K (d, some (true, h, j))) (recvCell d h j)
        ∗ ((slotOf (buf b) s).view.loc (c : Thread nD τ) ↦[(slotOf (buf b) s).view.set]{q} fs)
        ∗ ((slotOf (buf b) t).view.loc (d : Thread nD τ) ↦[(slotOf (buf b) t).view.set]{fullShare} fd)
        ∗ owes (c : Thread nD τ) (O + tallyAt (recvCell d h j) () N) W
        ∗ dutyTok ER (sendCell c h j) 0 0 ∗ reached ER (sendCell c h j) 0
        ∗ dutyTok ER (recvCell d h j) 0 0 ∗ reached ER (recvCell d h j) 0)
      ⊢ iprop(((cred (tallyAt (sendCell c h j) () N) ∗ owes (c : Thread nD τ) O W) -∗ wpc c (k ⟨⟩) Q)
          -∗ wpc c (sendTo b s t h j d >>= k) Q) := by
  unfold sendTo
  simp only [Prog.lift, Prog.bind_op, Prog.bind_ret]
  exact Rounds.wp_send_pointsTo 𝒱₀ ER (sched kv) (c : Thread nD τ) none (c' := (d : Thread nD τ)) (κ₁ := K (c, some (false, h, j))) (κ₂ := K (d, some (true, h, j)))
    (r₁ := 0) (r₂ := 0) (d₁ := 0) (d₂ := 0) (fd := fd)
    (by rw [duties_send]; exact Finset.mem_singleton_self _) (by rw [duties_recv]; exact Finset.mem_singleton_self _)
    () () N (by cases b <;> rfl) (amount_send kv c h j 0) (amount_recv kv d h j 0) O rfl (W := W) hsnd hrec

/-- A copy: the lent share of the slot it leaves from and the slot it lands in go; the send cell's credit comes. -/
theorem wp_sendTo (c : Dev nD) (h : Fin 3) (j : Fin 2) (g : Wide (Elt F .bf16)) (O : CellTallies nD τ sig Unit)
    {α : Type} {Q : α → sProp 𝕄} {k : PUnit → PU F α} :
    iprop(cellInv ER (sched kv) (K (c, some (false, h, j))) (sendCell c h j) ∗ cellInv ER (sched kv) (K (peer j c, some (true, h, j))) (recvCell (peer j c) h j)
        ∗ slotPts (ev c) c (srcSlot h j) (qLend j) (gath kv (ev c) c) ∗ slotPts (ev c) (peer j c) h.succ fullShare g
        ∗ owing c (O + tallyAt (recvCell (peer j c) h j) () N)
        ∗ dutyTok ER (sendCell c h j) 0 0 ∗ reached ER (sendCell c h j) 0
        ∗ dutyTok ER (recvCell (peer j c) h j) 0 0 ∗ reached ER (recvCell (peer j c) h j) 0)
      ⊢ iprop(((cred (tallyAt (sendCell c h j) () N) ∗ owing c O) -∗ wpc c (k ⟨⟩) Q)
          -∗ wpc c (sendTo (ev c) (srcSlot h j) h.succ h j (peer j c) >>= k) Q) := by
  have hrec : (sched kv).payload (recvCell (peer j c) h j) 0 0 = slotPts (ev c) (peer j c) h.succ fullShare (gath kv (ev c) (peer j c)) := by
    rw [payload_recv]; unfold recvPay; rw [inBuf_peer]
  have hsnd : (sched kv).payload (sendCell c h j) 0 0 = slotPts (ev c) c (srcSlot h j) (qLend j) (gath kv (ev c) c) := by
    rw [payload_send]; rfl
  have hsrc := srcDev_peer c h j
  unfold owing
  iintro ⟨#HIs, #HIr, Hsrc, Hdst, ⟨%W, HO⟩, Hts, #Hrs, Htr, #Hrr⟩ Hk
  generalize ev c = b at *
  cases b
  · rw [slotPts_view_v] at hsnd
    ihave Hsrc := (Entails.of_eq (slotPts_view_v c _ _ _)) $$ Hsrc
    ihave Hdst := (Entails.of_eq (slotPts_view_v (peer j c) _ _ _)) $$ Hdst
    iapply (wp_copy kv K c (peer j c) false (srcSlot h j) h.succ h j (qLend j) (gath kv false c) g O W
      (by rw [hsnd]) (by
        rw [hrec]
        refine (Entails.of_eq (slotPts_view_v (peer j c) h.succ fullShare
          ((slotOf (buf false) h.succ).view.write (Elt F) g ((slotOf (buf false) (srcSlot h j)).view.read (Elt F) (gath kv false c)) Finset.univ)).symm).trans ?_
        refine Entails.of_eq (slotPts_congr false (peer j c) h.succ fullShare _ _ fun i hi => ?_)
        rw [show (slotOf (buf false) (srcSlot h j)).view.read (Elt F) (gath kv false c) = kv false (srcDev false (peer j c) h.succ) from
          (slot_read_v (srcSlot h j) fun s => kv false (srcDev false c s)).trans (by rw [hsrc])]
        exact slot_write_v h.succ (fun s => kv false (srcDev false (peer j c) s)) g i hi)) $$ [Hsrc Hdst HO Hts Htr]
    · isplitr; · iexact HIs
      isplitr; · iexact HIr
      isplitl [Hsrc]; · iexact Hsrc
      isplitl [Hdst]; · iexact Hdst
      isplitl [HO]; · iexact HO
      isplitl [Hts]; · iexact Hts
      isplitr; · iexact Hrs
      isplitl [Htr]; · iexact Htr
      iexact Hrr
    iintro ⟨Hc, HO⟩
    iapply Hk
    isplitl [Hc]; · iexact Hc
    iexists W; iexact HO
  · rw [slotPts_view_k] at hsnd
    ihave Hsrc := (Entails.of_eq (slotPts_view_k c _ _ _)) $$ Hsrc
    ihave Hdst := (Entails.of_eq (slotPts_view_k (peer j c) _ _ _)) $$ Hdst
    iapply (wp_copy kv K c (peer j c) true (srcSlot h j) h.succ h j (qLend j) (gath kv true c) g O W
      (by rw [hsnd]) (by
        rw [hrec]
        refine (Entails.of_eq (slotPts_view_k (peer j c) h.succ fullShare
          ((slotOf (buf true) h.succ).view.write (Elt F) g ((slotOf (buf true) (srcSlot h j)).view.read (Elt F) (gath kv true c)) Finset.univ)).symm).trans ?_
        refine Entails.of_eq (slotPts_congr true (peer j c) h.succ fullShare _ _ fun i hi => ?_)
        rw [show (slotOf (buf true) (srcSlot h j)).view.read (Elt F) (gath kv true c) = kv true (srcDev true (peer j c) h.succ) from
          (slot_read_k (srcSlot h j) fun s => kv true (srcDev true c s)).trans (by rw [hsrc])]
        exact slot_write_k h.succ (fun s => kv true (srcDev true (peer j c) s)) g i hi)) $$ [Hsrc Hdst HO Hts Htr]
    · isplitr; · iexact HIs
      isplitr; · iexact HIr
      isplitl [Hsrc]; · iexact Hsrc
      isplitl [Hdst]; · iexact Hdst
      isplitl [HO]; · iexact HO
      isplitl [Hts]; · iexact Hts
      isplitr; · iexact Hrs
      isplitl [Htr]; · iexact Htr
      iexact Hrr
    iintro ⟨Hc, HO⟩
    iapply Hk
    isplitl [Hc]; · iexact Hc
    iexists W; iexact HO

/-! ## Waits -/

/-- A wait on a receive cell: the slot it landed in comes. -/
theorem wp_waitRecv (c : Dev nD) (h : Fin 3) (j : Fin 2) (s t : Fin 4) (O : CellTallies nD τ sig Unit)
    {α : Type} {Q : α → sProp 𝕄} {k : PUnit → PU F α} :
    iprop(cellInv ER (sched kv) (K (c, some (true, h, j))) (recvCell c h j) ∗ cred (tallyAt (recvCell c h j) () N) ∗ owing c O
        ∗ MayWait (c : Thread nD τ) (.dma (rSem h j)) () O ∗ atPos ER (recvCell c h j) 0 ∅ 0)
      ⊢ iprop(((owing c O ∗ atPos ER (recvCell c h j) 1 ∅ 0 ∗ recvPay kv c h j) -∗ wpc c (k ⟨⟩) Q) -∗ wpc c (waitFor (rSem h j) s t >>= k) Q) := by
  unfold owing waitFor
  simp only [Prog.lift, Prog.bind_op, Prog.bind_ret]
  iintro ⟨#HI, Hc, ⟨%W, HO⟩, Hm, Hat⟩ Hk
  iapply (Rounds.wp_wait_rest_token 𝒱₀ ER (sched kv) (c : Thread nD τ) none (κ := K (c, some (true, h, j)))
      (wpE_waitDma2_eq 𝒱₀ (c : Thread nD τ) none Set.univ) (Set.mem_univ _) () (O := O) (W := W) (R := 0) (m := 0) (T := ∅)
      (by rw [Nat.zero_add, expect_recv])) $$ [Hc HO Hm Hat]
  · isplitr; · iexact HI
    isplitl [Hc]; · iexact Hc
    isplitl [HO]; · iexact HO
    isplitl [Hm]; · iexact Hm
    iexact Hat
  iintro ⟨HO, Hat, -, Hp⟩
  ihave Hp := (Entails.of_eq (rest_recv kv c h j)) $$ Hp
  iapply Hk
  isplitl [HO]; · iexists _; iexact HO
  isplitl [Hat]; · iexact Hat
  iexact Hp

/-- A wait on a send cell with nothing owed: the lent share comes back. -/
theorem wp_waitSend (c : Dev nD) (h : Fin 3) (j : Fin 2) (s t : Fin 4)
    {α : Type} {Q : α → sProp 𝕄} {k : PUnit → PU F α} :
    iprop(cellInv ER (sched kv) (K (c, some (false, h, j))) (sendCell c h j) ∗ cred (tallyAt (sendCell c h j) () N) ∗ owing c 0
        ∗ atPos ER (sendCell c h j) 0 ∅ 0)
      ⊢ iprop(((owing c 0 ∗ atPos ER (sendCell c h j) 1 ∅ 0 ∗ sendPay kv c h j) -∗ wpc c (k ⟨⟩) Q) -∗ wpc c (waitFor (sSem h j) s t >>= k) Q) := by
  unfold owing waitFor
  simp only [Prog.lift, Prog.bind_op, Prog.bind_ret]
  iintro ⟨#HI, Hc, ⟨%W, HO⟩, Hat⟩ Hk
  iapply (Rounds.wp_wait_rest_token 𝒱₀ ER (sched kv) (c : Thread nD τ) none (κ := K (c, some (false, h, j)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hp⟩
  ihave Hp := (Entails.of_eq (rest_send kv c h j)) $$ Hp
  iapply Hk
  isplitl [HO]; · iexists _; iexact HO
  isplitl [Hat]; · iexact Hat
  iexact Hp

/-! ## Heads -/

/-- The block buffers. -/
def qPts (c : Dev nD) (X : Blk (Elt F .bf16)) : sProp 𝕄 := ((c : Thread nD τ).loc cc0_scratch2) ↦{fullShare} X
def aPts (c : Dev nD) (X : Blk (Elt F .f32)) : sProp 𝕄 := ((c : Thread nD τ).loc cc0_scratch3) ↦{fullShare} X
def lPts (c : Dev nD) (X : Blk (Elt F .f32)) : sProp 𝕄 := ((c : Thread nD τ).loc cc0_scratch4) ↦{fullShare} X

theorem shead_sub (b : Ref sig .tc) (s : Fin 4) (h : Fin 16) (i : S4x4x256x1024.Idx) (hi : i ∈ (rSHead s h).set) : i ∈ slotSet s := by
  rw [Rect.mem_set_unit] at hi
  rw [mem_slotSet]
  have h1 : s.val ≤ (i 0).val := (hi 0).1
  have h2 : (i 0).val < s.val + 1 := (hi 0).2
  omega

theorem wp_ldHead_q (c : Dev nD) (h : Fin 16) (X : Blk (Elt F .bf16)) {α : Type} {Q : α → sProp 𝕄} {k : Vec F S4x256x64 .bf16 → PU F α} :
    qPts c X ⊢ iprop((qPts c X -∗ wpc c (k (colsOf X h)) Q) -∗ wpc c (ldHead qBuf h >>= k) Q) := by
  unfold ldHead; simp only [Prog.lift, Prog.bind_op, Prog.bind_ret]
  rw [← read_head_q]
  exact wp_load 𝒱₀ (c : Thread nD τ) none Set.univ (m := qBuf) (Finset.subset_univ _)
theorem wp_ldHead_a (c : Dev nD) (h : Fin 16) (X : Blk (Elt F .f32)) {α : Type} {Q : α → sProp 𝕄} {k : Vec F S4x256x64 .f32 → PU F α} :
    aPts c X ⊢ iprop((aPts c X -∗ wpc c (k (colsOf X h)) Q) -∗ wpc c (ldHead accB h >>= k) Q) := by
  unfold ldHead; simp only [Prog.lift, Prog.bind_op, Prog.bind_ret]
  rw [← read_head_a]
  exact wp_load 𝒱₀ (c : Thread nD τ) none Set.univ (m := accB) (Finset.subset_univ _)
theorem wp_ldHead_l (c : Dev nD) (h : Fin 16) (X : Blk (Elt F .f32)) {α : Type} {Q : α → sProp 𝕄} {k : Vec F S4x256x64 .f32 → PU F α} :
    lPts c X ⊢ iprop((lPts c X -∗ wpc c (k (colsOf X h)) Q) -∗ wpc c (ldHead lB h >>= k) Q) := by
  unfold ldHead; simp only [Prog.lift, Prog.bind_op, Prog.bind_ret]
  rw [← read_head_l]
  exact wp_load 𝒱₀ (c : Thread nD τ) none Set.univ (m := lB) (Finset.subset_univ _)
theorem wp_ldSHead_k (c : Dev nD) (s : Fin 4) (h : Fin 16) (q : PosShare TreeShare) (B : Fin 4 → Blk (Elt F .bf16))
    {α : Type} {Q : α → sProp 𝕄} {k : Vec F S1x4x256x64 .bf16 → PU F α} :
    slotPts true c s q (wide B) ⊢ iprop((slotPts true c s q (wide B) -∗ wpc c (k (scolsOf (B s) h)) Q) -∗ wpc c (ldSHead (buf true) s h >>= k) Q) := by
  unfold ldSHead; simp only [Prog.lift, Prog.bind_op, Prog.bind_ret]
  rw [← read_shead_k]
  exact wp_load 𝒱₀ (c : Thread nD τ) none Set.univ (m := buf true) (fun i hi => by
    obtain ⟨x, hx, rfl⟩ := Finset.mem_map.mp hi
    exact shead_sub cc0_scratch0 s h x hx)
theorem wp_ldSHead_v (c : Dev nD) (s : Fin 4) (h : Fin 16) (q : PosShare TreeShare) (B : Fin 4 → Blk (Elt F .bf16))
    {α : Type} {Q : α → sProp 𝕄} {k : Vec F S1x4x256x64 .bf16 → PU F α} :
    slotPts false c s q (wide B) ⊢ iprop((slotPts false c s q (wide B) -∗ wpc c (k (scolsOf (B s) h)) Q) -∗ wpc c (ldSHead (buf false) s h >>= k) Q) := by
  unfold ldSHead; simp only [Prog.lift, Prog.bind_op, Prog.bind_ret]
  rw [← read_shead_v]
  exact wp_load 𝒱₀ (c : Thread nD τ) none Set.univ (m := buf false) (fun i hi => by
    obtain ⟨x, hx, rfl⟩ := Finset.mem_map.mp hi
    exact shead_sub cc0_scratch1 s h x hx)
theorem wp_stHead_a (c : Dev nD) (h : Fin 16) (hs : List (Fin 16)) (hn : (h :: hs).Nodup) (new old : Blk (Elt F .f32))
    (w : FVec F S4x256x64 .f32) (hw : w = colsOf new h) {α : Type} {Q : α → sProp 𝕄} {k : PUnit → PU F α} :
    aPts c (mixed (h :: hs) new old) ⊢ iprop((aPts c (mixed hs new old) -∗ wpc c (k ⟨⟩) Q) -∗ wpc c (stHead accB h w >>= k) Q) := by
  subst hw
  unfold stHead; simp only [Prog.lift, Prog.bind_op, Prog.bind_ret]
  rw [← write_head_a h hs hn]
  exact wp_store 𝒱₀ (c : Thread nD τ) none Set.univ (m := accB) (r := rHead h) (Mk := Finset.univ) (Finset.subset_univ _)
theorem wp_stHead_l (c : Dev nD) (h : Fin 16) (hs : List (Fin 16)) (hn : (h :: hs).Nodup) (new old : Blk (Elt F .f32))
    (w : FVec F S4x256x64 .f32) (hw : w = colsOf new h) {α : Type} {Q : α → sProp 𝕄} {k : PUnit → PU F α} :
    lPts c (mixed (h :: hs) new old) ⊢ iprop((lPts c (mixed hs new old) -∗ wpc c (k ⟨⟩) Q) -∗ wpc c (stHead lB h w >>= k) Q) := by
  subst hw
  unfold stHead; simp only [Prog.lift, Prog.bind_op, Prog.bind_ret]
  rw [← write_head_l h hs hn]
  exact wp_store 𝒱₀ (c : Thread nD τ) none Set.univ (m := lB) (r := rHead h) (Mk := Finset.univ) (Finset.subset_univ _)

section Stage

variable (X : Blk (Elt F .bf16)) (Kb Vb : Fin 4 → Blk (Elt F .bf16))

/-- What the heads of a stage read: the scaled queries and slot `s` of both gathered buffers. -/
def reads (c : Dev nD) (s : Fin 4) : sProp 𝕄 :=
  iprop(qPts c X ∗ slotPts true c s qKeep (wide Kb) ∗ slotPts false c s qKeep (wide Vb))

/-- The heads of the first stage. -/
theorem wp_heads0 (c : Dev nD) (fa fl : Blk (Elt F .f32)) {α : Type} {Q : α → sProp 𝕄} {k : PUnit → PU F α} :
    (hs : List (Fin 16)) → hs.Nodup →
    iprop(reads X Kb Vb c 0 ∗ aPts c (mixed hs (accN X Kb Vb 0) fa) ∗ lPts c (mixed hs (lN X Kb 0) fl))
      ⊢ iprop(((reads X Kb Vb c 0 ∗ aPts c (accN X Kb Vb 0) ∗ lPts c (lN X Kb 0)) -∗ wpc c (k ⟨⟩) Q) -∗ wpc c (heads head0 hs >>= k) Q)
  | [], _ => by
    rw [mixed_nil, mixed_nil]
    iintro H Hk
    iapply Hk; iexact H
  | h :: hs, hn => by
    have ih := wp_heads0 c fa fl (Q := Q) (k := k) hs (List.nodup_cons.mp hn).2
    unfold heads head0
    simp only [Prog.bind_assoc]
    unfold reads at *
    iintro ⟨⟨Hq, HK, HV⟩, Ha, Hl⟩ Hk
    iapply (wp_ldHead_q c h X) $$ Hq; iintro Hq
    iapply (wp_ldSHead_k c 0 h qKeep Kb) $$ HK; iintro HK
    iapply (wp_ldSHead_v c 0 h qKeep Vb) $$ HV; iintro HV
    iapply (wp_ldHead_a c h _) $$ Ha; iintro Ha
    iapply (wp_stHead_a c h hs hn _ fa _ (by unfold accN; rw [colsOf_assemble])) $$ Ha; iintro Ha
    iapply (wp_ldHead_l c h _) $$ Hl; iintro Hl
    iapply (wp_stHead_l c h hs hn _ fl _ (by unfold lN; rw [colsOf_assemble])) $$ Hl; iintro Hl
    iapply ih $$ [Hq HK HV Ha Hl]
    · isplitl [Hq HK HV]
      · isplitl [Hq]; · iexact Hq
        isplitl [HK]; · iexact HK
        iexact HV
      isplitl [Ha]; · iexact Ha
      iexact Hl
    iexact Hk

/-- The heads of a later stage. -/
theorem wp_heads1 (c : Dev nD) (n : ℕ) (s : Fin 4) (hsn : s = Fin.ofNat 4 (n + 1)) {α : Type} {Q : α → sProp 𝕄} {k : PUnit → PU F α} :
    (hs : List (Fin 16)) → hs.Nodup →
    iprop(reads X Kb Vb c s ∗ aPts c (mixed hs (accN X Kb Vb (n + 1)) (accN X Kb Vb n)) ∗ lPts c (mixed hs (lN X Kb (n + 1)) (lN X Kb n)))
      ⊢ iprop(((reads X Kb Vb c s ∗ aPts c (accN X Kb Vb (n + 1)) ∗ lPts c (lN X Kb (n + 1))) -∗ wpc c (k ⟨⟩) Q) -∗ wpc c (heads (head1 s) hs >>= k) Q)
  | [], _ => by
    rw [mixed_nil, mixed_nil]
    iintro H Hk
    iapply Hk; iexact H
  | h :: hs, hn => by
    have ih := wp_heads1 c n s hsn (Q := Q) (k := k) hs (List.nodup_cons.mp hn).2
    unfold heads head1
    simp only [Prog.bind_assoc]
    unfold reads at *
    iintro ⟨⟨Hq, HK, HV⟩, Ha, Hl⟩ Hk
    iapply (wp_ldHead_q c h X) $$ Hq; iintro Hq
    iapply (wp_ldSHead_k c s h qKeep Kb) $$ HK; iintro HK
    iapply (wp_ldSHead_v c s h qKeep Vb) $$ HV; iintro HV
    iapply (wp_ldHead_a c h _) $$ Ha; iintro Ha
    iapply (wp_ldHead_a c h _) $$ Ha; iintro Ha
    iapply (wp_stHead_a c h hs hn _ _ _ (by rw [accN, colsOf_assemble, colsOf_mixed, hsn])) $$ Ha; iintro Ha
    iapply (wp_ldHead_l c h _) $$ Hl; iintro Hl
    iapply (wp_ldHead_l c h _) $$ Hl; iintro Hl
    iapply (wp_stHead_l c h hs hn _ _ _ (by rw [lN, colsOf_assemble, colsOf_mixed, hsn])) $$ Hl; iintro Hl
    iapply ih $$ [Hq HK HV Ha Hl]
    · isplitl [Hq HK HV]
      · isplitl [Hq]; · iexact Hq
        isplitl [HK]; · iexact HK
        iexact HV
      isplitl [Ha]; · iexact Ha
      iexact Hl
    iexact Hk

end Stage

end Cert.Attn
-- ==== Proof.Body.lean ====
/-
# The body, run on one device

From its cells' ghost state, its buffers and its blocks of the arrays, device `c`'s body ends with its result block at
`outAt c`, its buffers whole again and every semaphore of its own at zero.
-/
module

public import proofs.«01_k».proof.Proof.Steps

@[expose] public section

noncomputable section

namespace Cert.Attn

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (kv : Bool → Dev nD → Blk (Elt F .bf16)) (qv : Dev nD → Blk (Elt F .bf16)) (K : Dev nD × CI → ℕ)

/-! ## What a device starts from and ends with -/

/-- Every cell's invariant, and that each stands at its first round at least. -/
def records : sProp 𝕄 :=
  iprop((bigSep Finset.univ fun ck : Dev nD × CI => cellInv ER (sched kv) (K ck) (kcell ck))
    ∗ bigSep Finset.univ fun ck : Dev nD × CI => reached ER (kcell ck) 0)

instance records_persistent : BI.Persistent (records kv K) := by unfold records; infer_instance

omit [FloatOps F] in
theorem inv_at (ck : Dev nD × CI) : records kv K ⊢ cellInv ER (sched kv) (K ck) (kcell ck) := by
  unfold records
  iintro ⟨HI, -⟩
  exact bigSep_elim (Finset.mem_univ ck) (Φ := fun ck : Dev nD × CI => (cellInv ER (sched kv) (K ck) (kcell ck) : sProp 𝕄))
omit [FloatOps F] in
theorem reached_at (ck : Dev nD × CI) : records kv K ⊢ reached ER (kcell ck) 0 := by
  unfold records
  iintro ⟨-, HR⟩
  exact bigSep_elim (Finset.mem_univ ck) (Φ := fun ck : Dev nD × CI => (reached ER (kcell ck) 0 : sProp 𝕄))

/-- A resource for each hop and direction. -/
def each (Φ : Fin 3 → Fin 2 → sProp 𝕄) : sProp 𝕄 := iprop(Φ 0 0 ∗ Φ 0 1 ∗ Φ 1 0 ∗ Φ 1 1 ∗ Φ 2 0 ∗ Φ 2 1)

/-- The tokens of the duties device `c` pays, and its positions. -/
def payToks (c : Dev nD) : sProp 𝕄 :=
  iprop(dutyTok ER (barCell (prv c)) 0 0 ∗ dutyTok ER (barCell (par c)) 0 1 ∗ dutyTok ER (barCell (nxt c)) 0 2
    ∗ each (fun h j => dutyTok ER (recvCell (peer j c) h j) 0 0) ∗ each (fun h j => dutyTok ER (sendCell c h j) 0 0))
def atToks (c : Dev nD) : sProp 𝕄 :=
  iprop(atPos ER (barCell c) 0 ∅ 0 ∗ each (fun h j => atPos ER (sendCell c h j) 0 ∅ 0) ∗ each (fun h j => atPos ER (recvCell c h j) 0 ∅ 0))
def ghost (c : Dev nD) : sProp 𝕄 := iprop(records kv K ∗ atToks c ∗ payToks c)

/-- The credits of the waits others pay for, and the levels. -/
def credits (c : Dev nD) : sProp 𝕄 :=
  iprop(cred (tallyAt (barCell c) () 3) ∗ each (fun h j => cred (tallyAt (recvCell c h j) () N)) ∗ levAts L lv)

/-- The scratch buffers, at some contents. -/
def scratch (c : Dev nD) : sProp 𝕄 :=
  iprop((∃ g, bufPts true c g) ∗ (∃ g, bufPts false c g) ∗ (∃ X, qPts c X) ∗ (∃ X, aPts c X) ∗ ∃ X, lPts c X)

/-- The device's own semaphores and the barrier's at zero. -/
def zeros (c : Dev nD) : sProp 𝕄 :=
  iprop(semVal (barCell c) 0 ∗ each (fun h j => semVal (sendCell c h j) 0) ∗ each (fun h j => semVal (recvCell c h j) 0))

/-- The device's blocks of the arguments. -/
def ins (c : Dev nD) : sProp 𝕄 :=
  iprop((((c : Thread nD τ).loc cc0_stg0_0) ↦{fullShare} qv c) ∗ (((c : Thread nD τ).loc cc0_stg1_0) ↦{fullShare} kv true c)
    ∗ (((c : Thread nD τ).loc cc0_stg2_0) ↦{fullShare} kv false c))
/-- Its block of the result. -/
def out (c : Dev nD) (X : Blk (Elt F .f32)) : sProp 𝕄 := ((c : Thread nD τ).loc cc0_stg3_0) ↦{fullShare} X

/-- The result: the numerator over the denominator after all four slots. -/
def outAt (c : Dev nD) : Blk (Elt F .f32) :=
  k0_pay259 (accN (k0_pay4 (qv c)) (fun s => kv true (srcDev true c s)) (fun s => kv false (srcDev false c s)) 3)
    (lN (k0_pay4 (qv c)) (fun s => kv true (srcDev true c s)) 3)

/-! ## Whole-block loads and stores -/

theorem hz3 : (![0, 0, 0] : Fin 3 → Nat) = fun _ => 0 := funext fun a => by fin_cases a <;> rfl

theorem wp_ldAll {e : EltTy} (c : Dev nD) (m : Memref sig .tc .vmem S4x256x1024 e)
    (X : Buf (Elt F) (m.view.loc (c : Thread nD τ))) (Y : Vec F S4x256x1024 e)
    (hY : m.view.readAt (Elt F) (Rect.unit (s := S4x256x1024) ![0, 0, 0] S4x256x1024.size inb_S4x256x1024_S4x256x1024_0_0_0).toLoadRect X = Y)
    {α : Type} {Q : α → sProp 𝕄} {k : Vec F S4x256x1024 e → PU F α} :
    (m.view.loc (c : Thread nD τ) ↦{fullShare} X : sProp 𝕄) ⊢ iprop(((m.view.loc (c : Thread nD τ) ↦{fullShare} X) -∗ wpc c (k Y) Q) -∗ wpc c (ldAll m >>= k) Q) := by
  unfold ldAll; simp only [Prog.lift, Prog.bind_op, Prog.bind_ret]
  rw [← hY]
  exact wp_load 𝒱₀ (c : Thread nD τ) none Set.univ (m := m) (Finset.subset_univ _)

/-- The rectangle of slot 0. -/
abbrev rSlot0 : Rect S4x4x256x1024 := Rect.unit (s := S4x4x256x1024) ![0, 0, 0, 0] S1x4x256x1024.size inb_S4x4x256x1024_S1x4x256x1024_0_0_0_0

theorem slot0_sub (i : S4x4x256x1024.Idx) (hi : i ∈ rSlot0.set) : i ∈ slotSet 0 := (slot_mem 0 i).mp hi

theorem wp_ldSlot0_k (c : Dev nD) (g : Wide (Elt F .bf16)) {α : Type} {Q : α → sProp 𝕄} {k : PU F α} :
    slotPts true c 0 fullShare g ⊢ iprop((slotPts true c 0 fullShare g -∗ wpc c k Q) -∗ wpc c (ldSlot0 (buf true) >>= fun _ => k) Q) := by
  unfold ldSlot0; simp only [Prog.lift, Prog.bind_op, Prog.bind_ret]
  exact wp_load 𝒱₀ (c : Thread nD τ) none Set.univ (m := buf true) (r := rSlot0.toLoadRect) (k := fun _ => k) (fun i hi => by
    obtain ⟨x, hx, rfl⟩ := Finset.mem_map.mp hi
    exact slot0_sub x hx)
theorem wp_ldSlot0_v (c : Dev nD) (g : Wide (Elt F .bf16)) {α : Type} {Q : α → sProp 𝕄} {k : PU F α} :
    slotPts false c 0 fullShare g ⊢ iprop((slotPts false c 0 fullShare g -∗ wpc c k Q) -∗ wpc c (ldSlot0 (buf false) >>= fun _ => k) Q) := by
  unfold ldSlot0; simp only [Prog.lift, Prog.bind_op, Prog.bind_ret]
  exact wp_load 𝒱₀ (c : Thread nD τ) none Set.univ (m := buf false) (r := rSlot0.toLoadRect) (k := fun _ => k) (fun i hi => by
    obtain ⟨x, hx, rfl⟩ := Finset.mem_map.mp hi
    exact slot0_sub x hx)

theorem slot0_emb (x : S1x4x256x1024.Idx) : rSlot0.emb x = slotIx 0 (ix3 (x 1) (x 2) (x 3)) := by
  funext a
  refine Fin.ext ?_
  rw [Rect.emb_apply]
  match a with
  | ⟨0, _⟩ =>
    have h0 : (x 0).val < 1 := (x 0).isLt
    show 0 + 1 * (x 0).val = 0
    omega
  | ⟨1, _⟩ => exact (Nat.zero_add _).trans (Nat.one_mul _)
  | ⟨2, _⟩ => exact (Nat.zero_add _).trans (Nat.one_mul _)
  | ⟨3, _⟩ => exact (Nat.zero_add _).trans (Nat.one_mul _)

theorem emb_slot0 (x : S1x4x256x1024.Idx) : rSlot0.emb x ∈ slotSet 0 := by rw [slot0_emb]; exact mem_slotSet.mpr rfl

/-- A block as slot 0's store carries it. -/
abbrev asSlot (B : Blk (Elt F .bf16)) : FVec F S1x4x256x1024 .bf16 := shapeCast S1x4x256x1024 B shapeCasts_S4x256x1024_S1x4x256x1024

theorem asSlot_apply (B : Blk (Elt F .bf16)) (u : Fin 1) (a : Fin 4) (r : Fin 256) (d : Fin 1024) : asSlot B (ix4 u a r d) = B (ix3 a r d) :=
  shapeCast_abc_1abc_apply B _ u a r d

/-- An element of slot 0 as the store's rectangle numbers it. -/
def inSlot0 (i : S4x4x256x1024.Idx) : S1x4x256x1024.Idx := ix4 (0 : Fin 1) (i 1) (i 2) (i 3)

theorem inSlot0_emb {i : S4x4x256x1024.Idx} (hi : i ∈ slotSet 0) : rSlot0.emb (inSlot0 i) = i :=
  (slot0_emb _).trans (slotIx_of_mem hi)

theorem asSlot_inSlot0 (B : Fin 4 → Blk (Elt F .bf16)) {i : S4x4x256x1024.Idx} (hi : i ∈ slotSet 0) : asSlot (B 0) (inSlot0 i) = wide B i := by
  refine (asSlot_apply (B 0) 0 (i 1) (i 2) (i 3)).trans ?_
  rw [← slotIx_of_mem hi, wide_slotIx]; rfl

/-- Slot 0 after the store. -/
theorem write_slot0_k (B : Fin 4 → Blk (Elt F .bf16)) (g : Wide (Elt F .bf16)) (i : S4x4x256x1024.Idx) (hi : i ∈ slotSet 0) :
    ((buf true).access rSlot0).write (Elt F) g (asSlot (B 0)) Finset.univ i = wide B i := by
  have e : ((buf true).access rSlot0).emb (inSlot0 i) = i := inSlot0_emb hi
  refine (congrArg (((buf true).access rSlot0).write (Elt F) g (asSlot (B 0)) Finset.univ) e.symm).trans
    ((View.write_emb_of_mem (v := (buf true).access rSlot0) (Val := Elt F) g (asSlot (B 0)) (Finset.mem_univ _)).trans ?_)
  exact asSlot_inSlot0 B hi
theorem write_slot0_v (B : Fin 4 → Blk (Elt F .bf16)) (g : Wide (Elt F .bf16)) (i : S4x4x256x1024.Idx) (hi : i ∈ slotSet 0) :
    ((buf false).access rSlot0).write (Elt F) g (asSlot (B 0)) Finset.univ i = wide B i := by
  have e : ((buf false).access rSlot0).emb (inSlot0 i) = i := inSlot0_emb hi
  refine (congrArg (((buf false).access rSlot0).write (Elt F) g (asSlot (B 0)) Finset.univ) e.symm).trans
    ((View.write_emb_of_mem (v := (buf false).access rSlot0) (Val := Elt F) g (asSlot (B 0)) (Finset.mem_univ _)).trans ?_)
  exact asSlot_inSlot0 B hi

theorem srcDev_zero (b : Bool) (c : Dev nD) : srcDev b c 0 = c := by unfold srcDev; rw [if_pos (Or.inl rfl)]; rfl

/-- The store of a device's own block into slot 0. -/
theorem wp_stSlot0_k (c : Dev nD) (g : Wide (Elt F .bf16)) {α : Type} {Q : α → sProp 𝕄} {k : PUnit → PU F α} :
    slotPts true c 0 fullShare g
      ⊢ iprop((slotPts true c 0 fullShare (gath kv true c) -∗ wpc c (k ⟨⟩) Q) -∗ wpc c (stSlot0 (buf true) (buf_whole true) (asSlot (kv true c)) >>= k) Q) := by
  unfold stSlot0; simp only [Prog.lift, Prog.bind_op, Prog.bind_ret]
  rw [← slotPts_congr true c 0 fullShare (((buf true).access rSlot0).write (Elt F) g (asSlot (kv true c)) Finset.univ) (gath kv true c) (fun i hi => by
    have := write_slot0_k (fun s => kv true (srcDev true c s)) g i hi
    rw [srcDev_zero] at this; exact this)]
  exact wp_store 𝒱₀ (c : Thread nD τ) none Set.univ (m := buf true) (r := rSlot0) (Mk := Finset.univ) (fun i hi => by
    obtain ⟨x, hx, rfl⟩ := Finset.mem_map.mp hi
    exact emb_slot0 x)
theorem wp_stSlot0_v (c : Dev nD) (g : Wide (Elt F .bf16)) {α : Type} {Q : α → sProp 𝕄} {k : PUnit → PU F α} :
    slotPts false c 0 fullShare g
      ⊢ iprop((slotPts false c 0 fullShare (gath kv false c) -∗ wpc c (k ⟨⟩) Q) -∗ wpc c (stSlot0 (buf false) (buf_whole false) (asSlot (kv false c)) >>= k) Q) := by
  unfold stSlot0; simp only [Prog.lift, Prog.bind_op, Prog.bind_ret]
  rw [← slotPts_congr false c 0 fullShare (((buf false).access rSlot0).write (Elt F) g (asSlot (kv false c)) Finset.univ) (gath kv false c) (fun i hi => by
    have := write_slot0_v (fun s => kv false (srcDev false c s)) g i hi
    rw [srcDev_zero] at this; exact this)]
  exact wp_store 𝒱₀ (c : Thread nD τ) none Set.univ (m := buf false) (r := rSlot0) (Mk := Finset.univ) (fun i hi => by
    obtain ⟨x, hx, rfl⟩ := Finset.mem_map.mp hi
    exact emb_slot0 x)

/-! ## The two buffers, ring first or keys first -/

omit [FloatOps F] in
theorem both (c : Dev nD) (Φ : Bool → sProp 𝕄) : iprop(Φ (ev c) ∗ Φ (!ev c)) = iprop(Φ true ∗ Φ false) := by
  cases ev c
  · exact BI.equiv_iff.mp ⟨(Laws.sep_comm (P := Φ false) (Q := Φ true)).1, (Laws.sep_comm (P := Φ false) (Q := Φ true)).2⟩
  · rfl

end Cert.Attn
-- ==== Proof.Run.lean ====
/-
# The body, step by step

From its cells' ghost state, its buffers and its blocks of the arrays, device `c`'s body ends with its result block at
`outAt c`, its buffers whole again and every semaphore of its own at zero.
-/
module

public import proofs.«01_k».proof.Proof.Body

@[expose] public section

noncomputable section

namespace Cert.Attn

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (kv : Bool → Dev nD → Blk (Elt F .bf16)) (qv : Dev nD → Blk (Elt F .bf16)) (K : Dev nD × CI → ℕ)

/-! ## The barrier -/

/-- A unit signalled to device `d`'s barrier, with its duty's payload. -/
theorem wp_signalTo (c d : Dev nD) (u : Fin 3) (O : CellTallies nD τ sig Unit) {α : Type} {Q : α → sProp 𝕄} {k : PUnit → PU F α} :
    iprop(records kv K ∗ owing c (O + tallyAt (barCell d) () 1) ∗ dutyTok ER (barCell d) 0 u ∗ payOf kv d (some none) u)
      ⊢ iprop((owing c O -∗ wpc c (k ⟨⟩) Q) -∗ wpc c (semSignalWord d barS 1#32 >>= k) Q) := by
  unfold owing
  simp only [semSignalWord, Prog.lift, Prog.bind_op, Prog.bind_ret]
  iintro ⟨#HR, ⟨%W, HO⟩, Ht, Hp⟩ Hk
  iapply (Rounds.wp_signal 𝒱₀ ER (sched kv) (c : Thread nD τ) none (dst := (d : Thread nD τ)) (κ := K (d, none))
      (d := u) (by rw [duties_bar]; exact Finset.mem_univ _) ((amount_bar kv d u).trans (by decide)) () O rfl) $$ [HO Ht Hp]
  · isplitr; · iapply (inv_at kv K (d, none)); iexact HR
    isplitl [HO]; · iexact HO
    isplitl [Ht]; · iexact Ht
    isplitl [Hp]; · rw [payload_bar]; iexact Hp
    iapply (reached_at kv K (d, none)); iexact HR
  iintro HO
  iapply Hk; iexists W; iexact HO

/-- The wait for the three units. -/
theorem wp_waitBar (c : Dev nD) {α : Type} {Q : α → sProp 𝕄} {k : PUnit → PU F α} :
    iprop(records kv K ∗ levAts L lv ∗ cred (tallyAt (barCell c) () 3) ∗ owing c (pend c hops) ∗ atPos ER (barCell c) 0 ∅ 0)
      ⊢ iprop(((owing c (pend c hops) ∗ atPos ER (barCell c) 1 ∅ 0 ∗ slots3 (ev c) (nxt c) ∗ slots3 (ev c) (par c)) -∗ wpc c (k ⟨⟩) Q)
        -∗ wpc c (semWaitWord barS 3#32 >>= k) Q) := by
  unfold owing
  simp only [semWaitWord, Prog.lift, Prog.bind_op, Prog.bind_ret]
  iintro ⟨#HR, #Hlev, Hc, ⟨%W, HO⟩, Hat⟩ Hk
  iapply (Rounds.wp_wait_rest_token 𝒱₀ ER (sched kv) (c : Thread nD τ) none (κ := K (c, none))
      (wpE_semWait_eq 𝒱₀ (c : Thread nD τ) none Set.univ) (Set.mem_univ _) () (O := pend c hops) (W := W) (R := 0) (m := 0) (T := ∅)
      (by rw [expect_bar]; decide)) $$ [Hc HO Hat]
  · isplitr; · iapply (inv_at kv K (c, none)); iexact HR
    isplitl [Hc]; · iexact Hc
    isplitl [HO]; · iexact HO
    isplitr; · iapply (mayWait_pend c (.reg barS) hops (by decide)); iexact Hlev
    iexact Hat
  iintro ⟨HO, Hat, -, Hpay⟩
  ihave Hp := (Entails.of_eq (rest_bar kv c)) $$ Hpay
  unfold barPay
  icases Hp with ⟨⟨Hn, -⟩, ⟨Hp, -⟩, -⟩
  iapply Hk
  isplitl [HO]; · iexists _; iexact HO
  isplitl [Hat]; · iexact Hat
  isplitl [Hn]; · iexact Hn
  iexact Hp

/-- What device `c` hands the device before it: slots 1–3 of the buffer it rings; -/
theorem pay_prv (c : Dev nD) : iprop(records kv K ∗ slots3 (ev c) c) ⊢ payOf kv (prv c) (some none) 0 := by
  show _ ⊢ barPay (prv c) 0
  unfold barPay
  rw [show peer 0 (prv c) = c from nxt_prv c, ev_prv]
  iintro ⟨#HR, H⟩
  isplitl [H]; · iexact H
  isplitr; · iapply (reached_at kv K (c, some (true, 0, 0))); iexact HR
  isplitr; · iapply (reached_at kv K (c, some (true, 1, 0))); iexact HR
  iapply (reached_at kv K (c, some (true, 2, 0))); iexact HR
/-- and its partner: those of the other. -/
theorem pay_par (c : Dev nD) : iprop(records kv K ∗ slots3 (!ev c) c) ⊢ payOf kv (par c) (some none) 1 := by
  show _ ⊢ barPay (par c) 1
  unfold barPay
  rw [show peer 1 (par c) = c from par_par c, ev_par]
  iintro ⟨#HR, H⟩
  isplitl [H]; · iexact H
  isplitr; · iapply (reached_at kv K (c, some (true, 0, 1))); iexact HR
  isplitr; · iapply (reached_at kv K (c, some (true, 1, 1))); iexact HR
  iapply (reached_at kv K (c, some (true, 2, 1))); iexact HR

/-! ## Whole stores -/

/-- A block's whole rectangle. -/
abbrev rAll : Rect S4x256x1024 := Rect.unit (s := S4x256x1024) ![0, 0, 0] S4x256x1024.size inb_S4x256x1024_S4x256x1024_0_0_0

theorem wp_stQ (c : Dev nD) (X w : Blk (Elt F .bf16)) {h₁ h₂} {α : Type} {Q : α → sProp 𝕄} {k : PUnit → PU F α} :
    qPts c X ⊢ iprop((qPts c w -∗ wpc c (k ⟨⟩) Q) -∗ wpc c (Prog.lift (.store qBuf
      (Rect.unit (s := S4x256x1024) ![0, 0, 0] S4x256x1024.size inb_S4x256x1024_S4x256x1024_0_0_0) w Finset.univ h₁ h₂) >>= k) Q) := by
  simp only [Prog.lift, Prog.bind_op, Prog.bind_ret]
  have e : (qBuf.access rAll).write (Elt F) X w Finset.univ = w := Memref.write_access_unit_zero_univ (Elt F) cc0_scratch2 hz3 _ X w
  have st := wp_store (defs := defs₀ (F := F)) (Q := Q) 𝒱₀ (c : Thread nD τ) none Set.univ (m := qBuf) (r := rAll) (w := w) (Mk := Finset.univ) (hx := h₁) (hm := h₂) (Γ := PendingWaitsCtx.empty)
    (k := k) (f := X) (Finset.subset_univ _)
  rw [e] at st
  exact st
theorem wp_stO (c : Dev nD) (X w : Blk (Elt F .f32)) {h₁ h₂} {α : Type} {Q : α → sProp 𝕄} {k : PUnit → PU F α} :
    out c X ⊢ iprop((out c w -∗ wpc c (k ⟨⟩) Q) -∗ wpc c (Prog.lift (.store oOut
      (Rect.unit (s := S4x256x1024) ![0, 0, 0] S4x256x1024.size inb_S4x256x1024_S4x256x1024_0_0_0) w Finset.univ h₁ h₂) >>= k) Q) := by
  simp only [Prog.lift, Prog.bind_op, Prog.bind_ret]
  have e : (oOut.access rAll).write (Elt F) X w Finset.univ = w := Memref.write_access_unit_zero_univ (Elt F) cc0_stg3_0 hz3 _ X w
  have st := wp_store (defs := defs₀ (F := F)) (Q := Q) 𝒱₀ (c : Thread nD τ) none Set.univ (m := oOut) (r := rAll) (w := w) (Mk := Finset.univ) (hx := h₁) (hm := h₂) (Γ := PendingWaitsCtx.empty)
    (k := k) (f := X) (Finset.subset_univ _)
  rw [e] at st
  exact st

/-! ## Whole loads -/

theorem wp_ldQ (c : Dev nD) (X : Blk (Elt F .bf16)) {α : Type} {Q : α → sProp 𝕄} {k : Vec F S4x256x1024 .bf16 → PU F α} :
    qPts c X ⊢ iprop((qPts c X -∗ wpc c (k X) Q) -∗ wpc c (ldAll qBuf >>= k) Q) :=
  wp_ldAll c qBuf X X (Memref.readAt_unit_zero (Elt F) cc0_scratch2 hz3 _ _)
theorem wp_ldA (c : Dev nD) (X : Blk (Elt F .f32)) {α : Type} {Q : α → sProp 𝕄} {k : Vec F S4x256x1024 .f32 → PU F α} :
    aPts c X ⊢ iprop((aPts c X -∗ wpc c (k X) Q) -∗ wpc c (ldAll accB >>= k) Q) :=
  wp_ldAll c accB X X (Memref.readAt_unit_zero (Elt F) cc0_scratch3 hz3 _ _)
theorem wp_ldL (c : Dev nD) (X : Blk (Elt F .f32)) {α : Type} {Q : α → sProp 𝕄} {k : Vec F S4x256x1024 .f32 → PU F α} :
    lPts c X ⊢ iprop((lPts c X -∗ wpc c (k X) Q) -∗ wpc c (ldAll lB >>= k) Q) :=
  wp_ldAll c lB X X (Memref.readAt_unit_zero (Elt F) cc0_scratch4 hz3 _ _)
theorem wp_ldO (c : Dev nD) (X : Blk (Elt F .f32)) {α : Type} {Q : α → sProp 𝕄} {k : Vec F S4x256x1024 .f32 → PU F α} :
    out c X ⊢ iprop((out c X -∗ wpc c (k X) Q) -∗ wpc c (ldAll oOut >>= k) Q) :=
  wp_ldAll c oOut X X (Memref.readAt_unit_zero (Elt F) cc0_stg3_0 hz3 _ _)

/-! ## Slots between the copies and the heads -/

/-- Slot `s` of the buffer `b` at its gathered contents, at a share. -/
abbrev slot (b : Bool) (c : Dev nD) (s : Fin 4) (q : PosShare TreeShare) : sProp 𝕄 := slotPts b c s q (gath kv b c)

/-- The heads' reads, from the two buffers in the ring's order. -/
theorem reads_eq (X : Blk (Elt F .bf16)) (c : Dev nD) (s : Fin 4) :
    iprop(qPts c X ∗ slot kv (ev c) c s qKeep ∗ slot kv (!ev c) c s qKeep)
      = reads X (fun s => kv true (srcDev true c s)) (fun s => kv false (srcDev false c s)) c s := by
  rw [both c fun b => slot kv b c s qKeep]; rfl

theorem both_bufs (c : Dev nD) (R : sProp 𝕄) :
    iprop((∃ g, bufPts true c g) ∗ (∃ g, bufPts false c g) ∗ R) = iprop(((∃ g, bufPts (ev c) c g) ∗ (∃ g, bufPts (!ev c) c g)) ∗ R) := by
  rw [both c fun b => iprop(∃ g, bufPts b c g)]
  have h₁ : iprop((∃ g, bufPts true c g) ∗ (∃ g, bufPts false c g) ∗ R) ⊢ iprop(((∃ g, bufPts true c g) ∗ (∃ g, bufPts false c g)) ∗ R) := by
    iintro ⟨A, B, C⟩
    isplitl [A B]
    · isplitl [A]; · iexact A
      iexact B
    iexact C
  have h₂ : iprop(((∃ g, bufPts true c g) ∗ (∃ g, bufPts false c g)) ∗ R) ⊢ iprop((∃ g, bufPts true c g) ∗ (∃ g, bufPts false c g) ∗ R) := by
    iintro ⟨⟨A, B⟩, C⟩
    isplitl [A]; · iexact A
    isplitl [B]; · iexact B
    iexact C
  exact BI.equiv_iff.mp ⟨h₁, h₂⟩

/-- Slot 0 of the two buffers, keys first. -/
theorem first_slots (c : Dev nD) (g g' : Wide (Elt F .bf16)) :
    iprop(slotPts (ev c) c 0 fullShare g ∗ slotPts (!ev c) c 0 fullShare g')
      ⊢ iprop((∃ g, slotPts true c 0 fullShare g) ∗ ∃ g, slotPts false c 0 fullShare g) := by
  rw [← both c fun b => iprop(∃ g, slotPts b c 0 fullShare g)]
  iintro ⟨H, H'⟩
  isplitl [H]
  · iexists g; iexact H
  iexists g'; iexact H'

/-- The copies' rule, with the landing slot and the tokens at hand. -/
theorem wp_hop (c : Dev nD) (h : Fin 3) (j : Fin 2) (g : Wide (Elt F .bf16)) (l : List (Fin 3 × Fin 2))
    {α : Type} {Q : α → sProp 𝕄} {k : PUnit → PU F α} :
    iprop(records kv K ∗ slot kv (ev c) c (srcSlot h j) (qLend j) ∗ slotPts (ev c) (peer j c) h.succ fullShare g
        ∗ owing c (pend c ((h, j) :: l)) ∗ dutyTok ER (sendCell c h j) 0 0 ∗ dutyTok ER (recvCell (peer j c) h j) 0 0)
      ⊢ iprop(((cred (tallyAt (sendCell c h j) () N) ∗ owing c (pend c l)) -∗ wpc c (k ⟨⟩) Q)
          -∗ wpc c (sendTo (ev c) (srcSlot h j) h.succ h j (peer j c) >>= k) Q) := by
  iintro ⟨#HR, Hs, Hd, HO, Ht, Ht'⟩
  iapply (wp_sendTo kv K c h j g (pend c l))
  isplitr; · iapply (inv_at kv K (c, some (false, h, j))); iexact HR
  isplitr; · iapply (inv_at kv K (peer j c, some (true, h, j))); iexact HR
  isplitl [Hs]; · iexact Hs
  isplitl [Hd]; · iexact Hd
  isplitl [HO]; · iexact HO
  isplitl [Ht]; · iexact Ht
  isplitr; · iapply (reached_at kv K (c, some (false, h, j))); iexact HR
  isplitl [Ht']; · iexact Ht'
  iapply (reached_at kv K (peer j c, some (true, h, j))); iexact HR

/-- A receive's wait: the slot comes, whole, as its three shares. -/
theorem wp_arrive (c : Dev nD) (h : Fin 3) (j : Fin 2) (s t : Fin 4) (l : List (Fin 3 × Fin 2)) (b : Bool) (hb : inBuf c j = b)
    (hl : ∀ p ∈ l, lvl (.dma (rSem h j)) < lvl (.dma (rSem p.1 p.2)))
    {α : Type} {Q : α → sProp 𝕄} {k : PUnit → PU F α} :
    iprop(records kv K ∗ levAts L lv ∗ cred (tallyAt (recvCell c h j) () N) ∗ owing c (pend c l) ∗ atPos ER (recvCell c h j) 0 ∅ 0)
      ⊢ iprop(((owing c (pend c l) ∗ atPos ER (recvCell c h j) 1 ∅ 0
          ∗ slot kv b c h.succ qKeep ∗ slot kv b c h.succ (qLend 0) ∗ slot kv b c h.succ (qLend 1)) -∗ wpc c (k ⟨⟩) Q)
        -∗ wpc c (waitFor (rSem h j) s t >>= k) Q) := by
  subst hb
  rw [← slotPts_shares]
  iintro ⟨#HR, #Hlev, Hc, HO, Hat⟩
  iapply (wp_waitRecv kv K c h j s t (pend c l))
  isplitr; · iapply (inv_at kv K (c, some (true, h, j))); iexact HR
  isplitl [Hc]; · iexact Hc
  isplitl [HO]; · iexact HO
  isplitr; · iapply (mayWait_pend c _ l hl); iexact Hlev
  iexact Hat

/-- A send's wait: the lent share is back. -/
theorem wp_sent (c : Dev nD) (h : Fin 3) (j : Fin 2) (s t : Fin 4) {α : Type} {Q : α → sProp 𝕄} {k : PUnit → PU F α} :
    iprop(records kv K ∗ cred (tallyAt (sendCell c h j) () N) ∗ owing c (pend c []) ∗ atPos ER (sendCell c h j) 0 ∅ 0)
      ⊢ iprop(((owing c (pend c []) ∗ atPos ER (sendCell c h j) 1 ∅ 0 ∗ slot kv (ev c) c (srcSlot h j) (qLend j)) -∗ wpc c (k ⟨⟩) Q)
        -∗ wpc c (waitFor (sSem h j) s t >>= k) Q) := by
  iintro ⟨#HR, Hc, HO, Hat⟩
  iapply (wp_waitSend kv K c h j s t)
  isplitr; · iapply (inv_at kv K (c, some (false, h, j))); iexact HR
  isplitl [Hc]; · iexact Hc
  isplitl [HO]; · iexact HO
  iexact Hat

/-- A cell at its second round closes: its counter is zero. -/
theorem close (c : Dev nD) (k : CI) : iprop(records kv K ∗ atPos ER (kcell (c, k)) 1 ∅ 0) ⊢ iprop(|={Set.univ}=> semVal (kcell (c, k)) 0) := by
  iintro ⟨#HR, Hat⟩
  iapply (Rounds.cell_close ER (sched kv) (Set.mem_univ (K (c, k))) (fun h => h) (R := 1) (duties_later kv (kcell (c, k))))
  isplitr; · iapply (inv_at kv K (c, k)); iexact HR
  iexact Hat

/-- The four slots' shares make the buffer. -/
theorem join_slots (b : Bool) (c : Dev nD) :
    iprop((slot kv b c 0 qKeep ∗ slot kv b c 0 (qLend 0) ∗ slot kv b c 0 (qLend 1)) ∗ (slot kv b c 1 qKeep ∗ slot kv b c 1 (qLend 0) ∗ slot kv b c 1 (qLend 1))
        ∗ (slot kv b c 2 qKeep ∗ slot kv b c 2 (qLend 0) ∗ slot kv b c 2 (qLend 1)) ∗ (slot kv b c 3 qKeep ∗ slot kv b c 3 (qLend 0) ∗ slot kv b c 3 (qLend 1)))
      ⊢ iprop(∃ g, bufPts b c g) := by
  rw [← slotPts_shares, ← slotPts_shares, ← slotPts_shares, ← slotPts_shares, ← bufPts_slots]
  iintro H; iexists _; iexact H

/-- The device's own blocks as they are stored. -/
theorem stored_k (B : Blk (Elt F .bf16)) : k0_pay2 (k0_pay1 B) = asSlot B := by
  unfold k0_pay2 k0_pay1 asSlot; rw [shapeCast_self]
theorem stored_v (B : Blk (Elt F .bf16)) : k0_pay3 B = asSlot B := by
  unfold k0_pay3 asSlot; rw [shapeCast_self]

/-- What device `c` starts from, -/
def pre (c : Dev nD) : sProp 𝕄 :=
  iprop(ghost kv K c ∗ credits c ∗ scratch c ∗ owing c (O₀ c) ∗ ins kv qv c ∗ ∃ X, out c X)
/-- and what it ends with. -/
def post (c : Dev nD) : sProp 𝕄 :=
  iprop(scratch c ∗ zeros c ∗ owing c 0 ∗ ins kv qv c ∗ out c (outAt kv qv c))

theorem nodup_heads : allHeads.Nodup := by decide

set_option maxHeartbeats 2000000 in
/-- The body, one rule per effect in program order. -/
theorem run_body (c : Dev nD) (Q : PUnit → sProp 𝕄) : iprop(pre kv qv K c ∗ (post kv qv c -∗ Q ⟨⟩)) ⊢ wpc c (canon c) Q := by
  unfold pre ghost atToks payToks credits scratch each ins
  beta_reduce
  rw [both_bufs]
  iintro ⟨⟨⟨#HR, ⟨HaB, ⟨HaS00, HaS01, HaS10, HaS11, HaS20, HaS21⟩, ⟨HaR00, HaR01, HaR10, HaR11, HaR20, HaR21⟩⟩,
      ⟨HtP, HtZ, HtN, ⟨HtR00, HtR01, HtR10, HtR11, HtR20, HtR21⟩, ⟨HtS00, HtS01, HtS10, HtS11, HtS20, HtS21⟩⟩⟩,
    ⟨HcB, ⟨HcR00, HcR01, HcR10, HcR11, HcR20, HcR21⟩, #Hlev⟩, ⟨⟨⟨%g1, Hb1⟩, ⟨%g0, Hb0⟩⟩, ⟨%xq, Hq⟩, ⟨%xa, Ha⟩, ⟨%xl, Hl⟩⟩, HO,
    ⟨Hiq, Hik, Hiv⟩, ⟨%xo, Hout⟩⟩, Hk⟩
  ihave Hb1 := (Entails.of_eq (bufPts_slots (ev c) c g1)) $$ Hb1
  ihave Hb0 := (Entails.of_eq (bufPts_slots (!ev c) c g0)) $$ Hb0
  icases Hb1 with ⟨HR0, HR1, HR2, HR3⟩
  icases Hb0 with ⟨HX0, HX1, HX2, HX3⟩
  unfold canon canonD
  -- the three units and the wait for three
  iapply (wp_signalTo kv K c (prv c) 0 (O₁ c)) $$ [HO HtP HR1 HR2 HR3]
  · isplitr; · iexact HR
    isplitl [HO]; · iexact HO
    isplitl [HtP]; · iexact HtP
    iapply (pay_prv kv K c)
    isplitr; · iexact HR
    unfold slots3; iexists g1
    isplitl [HR1]; · iexact HR1
    isplitl [HR2]; · iexact HR2
    iexact HR3
  iintro HO
  iapply (wp_signalTo kv K c (nxt c) 2 (O₂ c)) $$ [HO HtN]
  · isplitr; · iexact HR
    isplitl [HO]; · iexact HO
    isplitl [HtN]; · iexact HtN
    rw [show payOf kv (nxt c) (some none) 2 = iprop(emp) from rfl]
    iempintro
  iintro HO
  iapply (wp_signalTo kv K c (par c) 1 (pend c hops)) $$ [HO HtZ HX1 HX2 HX3]
  · isplitr; · iexact HR
    isplitl [HO]; · iexact HO
    isplitl [HtZ]; · iexact HtZ
    iapply (pay_par kv K c)
    isplitr; · iexact HR
    unfold slots3; iexists g0
    isplitl [HX1]; · iexact HX1
    isplitl [HX2]; · iexact HX2
    iexact HX3
  iintro HO
  iapply (wp_waitBar kv K c) $$ [HcB HO HaB]
  · isplitr; · iexact HR
    isplitr; · iexact Hlev
    isplitl [HcB]; · iexact HcB
    isplitl [HO]; · iexact HO
    iexact HaB
  unfold slots3
  iintro ⟨HO, HaB, ⟨%gn, HN1, HN2, HN3⟩, ⟨%gp, HP1, HP2, HP3⟩⟩
  -- the device's own blocks into slot 0, and the scaled queries
  ihave H0 := (first_slots c g1 g0) $$ [HR0 HX0]
  · isplitl [HR0]; · iexact HR0
    iexact HX0
  icases H0 with ⟨⟨%gk, HK0⟩, ⟨%gv, HV0⟩⟩
  iapply (wp_ldAll c kIn (kv true c) (kv true c) (Memref.readAt_unit_zero (Elt F) cc0_stg1_0 hz3 _ _)) $$ Hik; iintro Hik
  rw [stored_k]
  iapply (wp_ldSlot0_k c gk) $$ HK0; iintro HK0
  iapply (wp_stSlot0_k kv c gk) $$ HK0; iintro HK0
  iapply (wp_ldAll c vIn (kv false c) (kv false c) (Memref.readAt_unit_zero (Elt F) cc0_stg2_0 hz3 _ _)) $$ Hiv; iintro Hiv
  rw [stored_v]
  iapply (wp_ldSlot0_v c gv) $$ HV0; iintro HV0
  iapply (wp_stSlot0_v kv c gv) $$ HV0; iintro HV0
  iapply (wp_ldAll c qIn (qv c) (qv c) (Memref.readAt_unit_zero (Elt F) cc0_stg0_0 hz3 _ _)) $$ Hiq; iintro Hiq
  iapply (wp_ldQ c xq) $$ Hq; iintro Hq
  iapply (wp_stQ c xq (k0_pay4 (qv c))) $$ Hq; iintro Hq
  -- slot 0 of both buffers as shares, the ring's first
  ihave H0 := (Entails.of_eq (both c fun b => slot kv b c 0 fullShare).symm) $$ [HK0 HV0]
  · isplitl [HK0]; · iexact HK0
    iexact HV0
  icases H0 with ⟨HR0, HX0⟩
  ihave HR0 := (Entails.of_eq (slotPts_shares _ _ _ _)) $$ HR0
  ihave HX0 := (Entails.of_eq (slotPts_shares _ _ _ _)) $$ HX0
  icases HR0 with ⟨HR0k, HR0a, HR0b⟩
  icases HX0 with ⟨HX0k, HX0a, HX0b⟩
  -- the hops and the heads
  iapply (wp_hop kv K c 0 0 gn [(0, 1), (1, 0), (1, 1), (2, 0), (2, 1)]) $$ [HR0a HN1 HO HtS00 HtR00]
  · isplitr; · iexact HR
    isplitl [HR0a]; · iexact HR0a
    isplitl [HN1]; · iexact HN1
    isplitl [HO]; · iexact HO
    isplitl [HtS00]; · iexact HtS00
    iexact HtR00
  iintro ⟨HcS00, HO⟩
  ihave Hrd := (Entails.of_eq (reads_eq kv (k0_pay4 (qv c)) c 0)) $$ [Hq HR0k HX0k]
  · isplitl [Hq]; · iexact Hq
    isplitl [HR0k]; · iexact HR0k
    iexact HX0k
  iapply (wp_heads0 (k0_pay4 (qv c)) (fun s => kv true (srcDev true c s)) (fun s => kv false (srcDev false c s)) c xa xl allHeads nodup_heads) $$ [Hrd Ha Hl]
  · rw [mixed_all, mixed_all]
    isplitl [Hrd]; · iexact Hrd
    isplitl [Ha]; · iexact Ha
    iexact Hl
  iintro ⟨Hrd, Ha, Hl⟩
  ihave Hrd := (Entails.of_eq (reads_eq kv (k0_pay4 (qv c)) c 0).symm) $$ Hrd
  icases Hrd with ⟨Hq, HR0k, HX0k⟩
  iapply (wp_arrive kv K c 0 0 0 1 [(0, 1), (1, 0), (1, 1), (2, 0), (2, 1)] (ev c) rfl (by decide)) $$ [HcR00 HO HaR00]
  · isplitr; · iexact HR
    isplitr; · iexact Hlev
    isplitl [HcR00]; · iexact HcR00
    isplitl [HO]; · iexact HO
    iexact HaR00
  iintro ⟨HO, HaR00, HR1k, HR1a, HR1b⟩
  iapply (wp_hop kv K c 0 1 gp [(1, 0), (1, 1), (2, 0), (2, 1)]) $$ [HR1b HP1 HO HtS01 HtR01]
  · isplitr; · iexact HR
    isplitl [HR1b]; · iexact HR1b
    isplitl [HP1]; · iexact HP1
    isplitl [HO]; · iexact HO
    isplitl [HtS01]; · iexact HtS01
    iexact HtR01
  iintro ⟨HcS01, HO⟩
  iapply (wp_hop kv K c 1 0 gn [(1, 1), (2, 0), (2, 1)]) $$ [HR1a HN2 HO HtS10 HtR10]
  · isplitr; · iexact HR
    isplitl [HR1a]; · iexact HR1a
    isplitl [HN2]; · iexact HN2
    isplitl [HO]; · iexact HO
    isplitl [HtS10]; · iexact HtS10
    iexact HtR10
  iintro ⟨HcS10, HO⟩
  iapply (wp_arrive kv K c 0 1 0 1 [(1, 1), (2, 0), (2, 1)] (!ev c) rfl (by decide)) $$ [HcR01 HO HaR01]
  · isplitr; · iexact HR
    isplitr; · iexact Hlev
    isplitl [HcR01]; · iexact HcR01
    isplitl [HO]; · iexact HO
    iexact HaR01
  iintro ⟨HO, HaR01, HX1k, HX1a, HX1b⟩
  ihave Hrd := (Entails.of_eq (reads_eq kv (k0_pay4 (qv c)) c 1)) $$ [Hq HR1k HX1k]
  · isplitl [Hq]; · iexact Hq
    isplitl [HR1k]; · iexact HR1k
    iexact HX1k
  iapply (wp_heads1 (k0_pay4 (qv c)) (fun s => kv true (srcDev true c s)) (fun s => kv false (srcDev false c s)) c 0 1 rfl allHeads nodup_heads) $$ [Hrd Ha Hl]
  · rw [mixed_all, mixed_all]
    isplitl [Hrd]; · iexact Hrd
    isplitl [Ha]; · iexact Ha
    iexact Hl
  iintro ⟨Hrd, Ha, Hl⟩
  ihave Hrd := (Entails.of_eq (reads_eq kv (k0_pay4 (qv c)) c 1).symm) $$ Hrd
  icases Hrd with ⟨Hq, HR1k, HX1k⟩
  iapply (wp_arrive kv K c 1 0 1 2 [(1, 1), (2, 0), (2, 1)] (ev c) rfl (by decide)) $$ [HcR10 HO HaR10]
  · isplitr; · iexact HR
    isplitr; · iexact Hlev
    isplitl [HcR10]; · iexact HcR10
    isplitl [HO]; · iexact HO
    iexact HaR10
  iintro ⟨HO, HaR10, HR2k, HR2a, HR2b⟩
  iapply (wp_hop kv K c 1 1 gp [(2, 0), (2, 1)]) $$ [HR2b HP2 HO HtS11 HtR11]
  · isplitr; · iexact HR
    isplitl [HR2b]; · iexact HR2b
    isplitl [HP2]; · iexact HP2
    isplitl [HO]; · iexact HO
    isplitl [HtS11]; · iexact HtS11
    iexact HtR11
  iintro ⟨HcS11, HO⟩
  iapply (wp_hop kv K c 2 0 gn [(2, 1)]) $$ [HR2a HN3 HO HtS20 HtR20]
  · isplitr; · iexact HR
    isplitl [HR2a]; · iexact HR2a
    isplitl [HN3]; · iexact HN3
    isplitl [HO]; · iexact HO
    isplitl [HtS20]; · iexact HtS20
    iexact HtR20
  iintro ⟨HcS20, HO⟩
  iapply (wp_arrive kv K c 1 1 1 2 [(2, 1)] (!ev c) rfl (by decide)) $$ [HcR11 HO HaR11]
  · isplitr; · iexact HR
    isplitr; · iexact Hlev
    isplitl [HcR11]; · iexact HcR11
    isplitl [HO]; · iexact HO
    iexact HaR11
  iintro ⟨HO, HaR11, HX2k, HX2a, HX2b⟩
  ihave Hrd := (Entails.of_eq (reads_eq kv (k0_pay4 (qv c)) c 2)) $$ [Hq HR2k HX2k]
  · isplitl [Hq]; · iexact Hq
    isplitl [HR2k]; · iexact HR2k
    iexact HX2k
  iapply (wp_heads1 (k0_pay4 (qv c)) (fun s => kv true (srcDev true c s)) (fun s => kv false (srcDev false c s)) c 1 2 rfl allHeads nodup_heads) $$ [Hrd Ha Hl]
  · rw [mixed_all, mixed_all]
    isplitl [Hrd]; · iexact Hrd
    isplitl [Ha]; · iexact Ha
    iexact Hl
  iintro ⟨Hrd, Ha, Hl⟩
  ihave Hrd := (Entails.of_eq (reads_eq kv (k0_pay4 (qv c)) c 2).symm) $$ Hrd
  icases Hrd with ⟨Hq, HR2k, HX2k⟩
  iapply (wp_arrive kv K c 2 0 2 3 [(2, 1)] (ev c) rfl (by decide)) $$ [HcR20 HO HaR20]
  · isplitr; · iexact HR
    isplitr; · iexact Hlev
    isplitl [HcR20]; · iexact HcR20
    isplitl [HO]; · iexact HO
    iexact HaR20
  iintro ⟨HO, HaR20, HR3k, HR3a, HR3b⟩
  iapply (wp_hop kv K c 2 1 gp []) $$ [HR3b HP3 HO HtS21 HtR21]
  · isplitr; · iexact HR
    isplitl [HR3b]; · iexact HR3b
    isplitl [HP3]; · iexact HP3
    isplitl [HO]; · iexact HO
    isplitl [HtS21]; · iexact HtS21
    iexact HtR21
  iintro ⟨HcS21, HO⟩
  iapply (wp_arrive kv K c 2 1 2 3 [] (!ev c) rfl (by decide)) $$ [HcR21 HO HaR21]
  · isplitr; · iexact HR
    isplitr; · iexact Hlev
    isplitl [HcR21]; · iexact HcR21
    isplitl [HO]; · iexact HO
    iexact HaR21
  iintro ⟨HO, HaR21, HX3k, HX3a, HX3b⟩
  ihave Hrd := (Entails.of_eq (reads_eq kv (k0_pay4 (qv c)) c 3)) $$ [Hq HR3k HX3k]
  · isplitl [Hq]; · iexact Hq
    isplitl [HR3k]; · iexact HR3k
    iexact HX3k
  iapply (wp_heads1 (k0_pay4 (qv c)) (fun s => kv true (srcDev true c s)) (fun s => kv false (srcDev false c s)) c 2 3 rfl allHeads nodup_heads) $$ [Hrd Ha Hl]
  · rw [mixed_all, mixed_all]
    isplitl [Hrd]; · iexact Hrd
    isplitl [Ha]; · iexact Ha
    iexact Hl
  iintro ⟨Hrd, Ha, Hl⟩
  ihave Hrd := (Entails.of_eq (reads_eq kv (k0_pay4 (qv c)) c 3).symm) $$ Hrd
  icases Hrd with ⟨Hq, HR3k, HX3k⟩
  -- the quotient
  iapply (wp_ldA c _) $$ Ha; iintro Ha
  iapply (wp_ldL c _) $$ Hl; iintro Hl
  iapply (wp_ldO c xo) $$ Hout; iintro Hout
  iapply (wp_stO c xo (outAt kv qv c)) $$ Hout; iintro Hout
  -- the lent shares back
  iapply (wp_sent kv K c 0 0 1 0) $$ [HcS00 HO HaS00]
  · isplitr; · iexact HR
    isplitl [HcS00]; · iexact HcS00
    isplitl [HO]; · iexact HO
    iexact HaS00
  iintro ⟨HO, HaS00, HR0a⟩
  iapply (wp_sent kv K c 0 1 1 0) $$ [HcS01 HO HaS01]
  · isplitr; · iexact HR
    isplitl [HcS01]; · iexact HcS01
    isplitl [HO]; · iexact HO
    iexact HaS01
  iintro ⟨HO, HaS01, HR1b⟩
  iapply (wp_sent kv K c 1 0 2 1) $$ [HcS10 HO HaS10]
  · isplitr; · iexact HR
    isplitl [HcS10]; · iexact HcS10
    isplitl [HO]; · iexact HO
    iexact HaS10
  iintro ⟨HO, HaS10, HR1a⟩
  iapply (wp_sent kv K c 1 1 2 1) $$ [HcS11 HO HaS11]
  · isplitr; · iexact HR
    isplitl [HcS11]; · iexact HcS11
    isplitl [HO]; · iexact HO
    iexact HaS11
  iintro ⟨HO, HaS11, HR2b⟩
  iapply (wp_sent kv K c 2 0 3 2) $$ [HcS20 HO HaS20]
  · isplitr; · iexact HR
    isplitl [HcS20]; · iexact HcS20
    isplitl [HO]; · iexact HO
    iexact HaS20
  iintro ⟨HO, HaS20, HR2a⟩
  rw [← Prog.bind_pure (waitFor (sSem 2 1) 3 2)]
  iapply (wp_sent kv K c 2 1 3 2) $$ [HcS21 HO HaS21]
  · isplitr; · iexact HR
    isplitl [HcS21]; · iexact HcS21
    isplitl [HO]; · iexact HO
    iexact HaS21
  iintro ⟨HO, HaS21, HR3b⟩
  rw [Prog.pure_eq_ret]; unfold wpc; rw [wp_ret]
  -- the cells close
  imod (close kv K c none) $$ [HaB] with HzB
  · isplitr; · iexact HR
    iexact HaB
  imod (close kv K c (some (false, 0, 0))) $$ [HaS00] with HzS00
  · isplitr; · iexact HR
    iexact HaS00
  imod (close kv K c (some (false, 0, 1))) $$ [HaS01] with HzS01
  · isplitr; · iexact HR
    iexact HaS01
  imod (close kv K c (some (false, 1, 0))) $$ [HaS10] with HzS10
  · isplitr; · iexact HR
    iexact HaS10
  imod (close kv K c (some (false, 1, 1))) $$ [HaS11] with HzS11
  · isplitr; · iexact HR
    iexact HaS11
  imod (close kv K c (some (false, 2, 0))) $$ [HaS20] with HzS20
  · isplitr; · iexact HR
    iexact HaS20
  imod (close kv K c (some (false, 2, 1))) $$ [HaS21] with HzS21
  · isplitr; · iexact HR
    iexact HaS21
  imod (close kv K c (some (true, 0, 0))) $$ [HaR00] with HzR00
  · isplitr; · iexact HR
    iexact HaR00
  imod (close kv K c (some (true, 0, 1))) $$ [HaR01] with HzR01
  · isplitr; · iexact HR
    iexact HaR01
  imod (close kv K c (some (true, 1, 0))) $$ [HaR10] with HzR10
  · isplitr; · iexact HR
    iexact HaR10
  imod (close kv K c (some (true, 1, 1))) $$ [HaR11] with HzR11
  · isplitr; · iexact HR
    iexact HaR11
  imod (close kv K c (some (true, 2, 0))) $$ [HaR20] with HzR20
  · isplitr; · iexact HR
    iexact HaR20
  imod (close kv K c (some (true, 2, 1))) $$ [HaR21] with HzR21
  · isplitr; · iexact HR
    iexact HaR21
  imodintro
  iapply Hk
  unfold post scratch zeros each ins
  beta_reduce
  rw [both_bufs]
  isplitl [HR0k HR0a HR0b HR1k HR1a HR1b HR2k HR2a HR2b HR3k HR3a HR3b HX0k HX0a HX0b HX1k HX1a HX1b HX2k HX2a HX2b HX3k HX3a HX3b Hq Ha Hl]
  · isplitl [HR0k HR0a HR0b HR1k HR1a HR1b HR2k HR2a HR2b HR3k HR3a HR3b HX0k HX0a HX0b HX1k HX1a HX1b HX2k HX2a HX2b HX3k HX3a HX3b]
    · isplitl [HR0k HR0a HR0b HR1k HR1a HR1b HR2k HR2a HR2b HR3k HR3a HR3b]
      · iapply (join_slots kv (ev c) c)
        isplitl [HR0k HR0a HR0b]
        · isplitl [HR0k]; · iexact HR0k
          isplitl [HR0a]; · iexact HR0a
          iexact HR0b
        isplitl [HR1k HR1a HR1b]
        · isplitl [HR1k]; · iexact HR1k
          isplitl [HR1a]; · iexact HR1a
          iexact HR1b
        isplitl [HR2k HR2a HR2b]
        · isplitl [HR2k]; · iexact HR2k
          isplitl [HR2a]; · iexact HR2a
          iexact HR2b
        isplitl [HR3k]; · iexact HR3k
        isplitl [HR3a]; · iexact HR3a
        iexact HR3b
      iapply (join_slots kv (!ev c) c)
      isplitl [HX0k HX0a HX0b]
      · isplitl [HX0k]; · iexact HX0k
        isplitl [HX0a]; · iexact HX0a
        iexact HX0b
      isplitl [HX1k HX1a HX1b]
      · isplitl [HX1k]; · iexact HX1k
        isplitl [HX1a]; · iexact HX1a
        iexact HX1b
      isplitl [HX2k HX2a HX2b]
      · isplitl [HX2k]; · iexact HX2k
        isplitl [HX2a]; · iexact HX2a
        iexact HX2b
      isplitl [HX3k]; · iexact HX3k
      isplitl [HX3a]; · iexact HX3a
      iexact HX3b
    isplitl [Hq]; · iexists _; iexact Hq
    isplitl [Ha]; · iexists _; iexact Ha
    iexists _; iexact Hl
  isplitl [HzB HzS00 HzS01 HzS10 HzS11 HzS20 HzS21 HzR00 HzR01 HzR10 HzR11 HzR20 HzR21]
  · isplitl [HzB]; · iexact HzB
    isplitl [HzS00 HzS01 HzS10 HzS11 HzS20 HzS21]
    · isplitl [HzS00]; · iexact HzS00
      isplitl [HzS01]; · iexact HzS01
      isplitl [HzS10]; · iexact HzS10
      isplitl [HzS11]; · iexact HzS11
      isplitl [HzS20]; · iexact HzS20
      iexact HzS21
    isplitl [HzR00]; · iexact HzR00
    isplitl [HzR01]; · iexact HzR01
    isplitl [HzR10]; · iexact HzR10
    isplitl [HzR11]; · iexact HzR11
    isplitl [HzR20]; · iexact HzR20
    iexact HzR21
  isplitl [HO]; · iexact HO
  isplitl [Hiq Hik Hiv]
  · isplitl [Hiq]; · iexact Hiq
    isplitl [Hik]; · iexact Hik
    iexact Hiv
  iexact Hout

end Cert.Attn
-- ==== Proof.Launch.lean ====
/-
# The launch: the cells' ghost state, dealt to the devices, and the run of the whole program

Each device gets the tokens of the duties it pays (its neighbours' cells), its positions in its own cells, and a credit
for each wait that others pay for. The run leaves `outAt c` in device `c`'s result and every semaphore at zero.
-/
module

public import proofs.«01_k».proof.Proof.Run
public import proofs.«01_k».proof.Proof.Gen.KernelIdeal.Frame
public import Idealize.ShloMosaic.Lib.Pipeline.CollectiveSegs

@[expose] public section

noncomputable section

namespace Cert.Attn

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: the memory, every counter at zero. -/
abbrev s₀ : MemSt nD τ sig (Elt F) := ⟨m, fun _ => 0, ρ⟩

/-! ## The blocks of the arguments -/

/-- The keys' and values' blocks of each device, as staged; -/
def kvAt (b : Bool) (c : Dev nD) : Blk (Elt F .bf16) :=
  match b with
  | true => iblk m c 1 t0_0
  | false => iblk m c 2 t0_0
/-- the queries'. -/
def qAt (c : Dev nD) : Blk (Elt F .bf16) := iblk m c 0 t0_0

/-! ## Sums of resources -/

omit [FloatOps F] in
theorem sep_regroup (A B C : sProp 𝕄) : iprop((A ∗ B) ∗ C) = iprop(A ∗ B ∗ C) := BI.equiv_iff.mp ⟨BI.sep_assoc, BI.sep_assoc'⟩

omit [FloatOps F] in
theorem each_eq (Φ : Fin 3 → Fin 2 → sProp 𝕄) : each Φ = bigSep Finset.univ fun p : Fin 3 × Fin 2 => Φ p.1 p.2 := by
  rw [bigSep_univ_eq_bigSepL [(0, 0), (0, 1), (1, 0), (1, 1), (2, 0), (2, 1)] (by decide) (by decide)]; rfl

omit [FloatOps F] in
theorem bigSep_pairs (Φ : Bool × Fin 3 × Fin 2 → sProp 𝕄) :
    bigSep Finset.univ Φ = iprop(each (fun h j => Φ (false, h, j)) ∗ each (fun h j => Φ (true, h, j))) := by
  rw [bigSep_univ_prod, bigSep_univ_eq_bigSepL [false, true] (by decide) (by decide), each_eq, each_eq]; rfl

omit [FloatOps F] in
theorem bigSep_cells (Φ : CI → sProp 𝕄) :
    bigSep Finset.univ Φ = iprop(Φ none ∗ each (fun h j => Φ (some (false, h, j))) ∗ each (fun h j => Φ (some (true, h, j)))) := by
  rw [bigSep_univ_equiv ((Equiv.optionEquivSumPUnit.{0} (Bool × Fin 3 × Fin 2)).symm.trans (Equiv.refl _)), bigSep_univ_sum,
    bigSep_univ_of_subsingleton PUnit.unit, bigSep_pairs]
  have h₁ (A B : sProp 𝕄) : iprop(A ∗ B) = iprop(B ∗ A) :=
    BI.equiv_iff.mp ⟨(Laws.sep_comm (P := A) (Q := B)).1, (Laws.sep_comm (P := A) (Q := B)).2⟩
  refine (h₁ _ _).trans ?_
  rfl

/-! ## The pipeline's proof data -/

/-- What device `c`'s body starts from, besides its buffers. -/
def start (c : Dev nD) : sProp 𝕄 := iprop((∃ K, ghost (kvAt m) K c) ∗ credits c)

def dats (_ : Fin 1) (c : Dev nD) : Dat τ (Elt F) Unit ℕ UU ℕ cfg0 c where
  A w := m ((cfg0.win w).arr.view.loc (c : Thread nD τ))
  after w _ := match w with
    | ⟨0, _⟩ => qAt m c
    | ⟨1, _⟩ => kvAt m true c
    | ⟨2, _⟩ => kvAt m false c
    | ⟨3, _⟩ => outAt (kvAt m) (qAt m) c
  Φ t := match t with
    | ⟨0, _⟩ => iprop(start m c ∗ scratch c)
    | ⟨_ + 1, _⟩ => iprop(scratch c ∗ zeros c)
  q _ := fullShare
  owed t := match t with
    | ⟨0, _⟩ => O₀ c
    | ⟨_ + 1, _⟩ => 0

theorem fin_N (t : Fin cfg0.N) : t = t0_0 := fin_N0 t

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

/-- A staging buffer at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m 0 c).before (0 : Fin 4) t0_0 d = qAt m c := by
  unfold Dat.before; rw [if_pos (fetch0_0 t0_0)]; rfl
theorem before_1 (c : Dev nD) (d) : (dats m 0 c).before (1 : Fin 4) t0_0 d = kvAt m true c := by
  unfold Dat.before; rw [if_pos (fetch0_1 t0_0)]; rfl
theorem before_2 (c : Dev nD) (d) : (dats m 0 c).before (2 : Fin 4) t0_0 d = kvAt m false c := by
  unfold Dat.before; rw [if_pos (fetch0_2 t0_0)]; rfl

set_option maxRecDepth 4000 in
def bodyPre (c : Dev nD) : sProp 𝕄 :=
  iprop((start m c ∗ scratch c) ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def bodyPost (c : Dev nD) : sProp 𝕄 :=
  iprop((scratch c ∗ zeros c) ∗ (dats m 0 c).owesAt () t0_0.succ ∗ stg c cc0_stg0_0 (qAt m c) ∗ stg c cc0_stg1_0 (kvAt m true c)
    ∗ stg c cc0_stg2_0 (kvAt m false c) ∗ stg c cc0_stg3_0 (outAt (kvAt m) (qAt m) c))

set_option maxRecDepth 4000 in
/-- The body's run, at the pipeline's staging buffers. -/
theorem sound_body (c : Dev nD) :
    bodyPre m c ⊢ wpc c (cc0_body qIn (Memref.isWhole_whole _) kIn (Memref.isWhole_whole _) vIn (Memref.isWhole_whole _) oOut (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6) (fun _ => bodyPost m c) := by
  rw [body_eq]
  simp only [Prog.lift, Prog.bind_op, Prog.bind_ret, wp_deviceId]
  unfold bodyPre start
  iintro ⟨⟨⟨⟨%K, Hg⟩, Hc⟩, Hs⟩, Ho, ⟨%d0, %f0, %h0, H0⟩, ⟨%d1, %f1, %h1, H1⟩, ⟨%d2, %f2, %h2, H2⟩, ⟨%d3, %f3, %h3, H3⟩⟩
  have h0 : f0 = qAt m c := h0.trans (before_0 m c d0)
  have h1 : f1 = kvAt m true c := h1.trans (before_1 m c d1)
  have h2 : f2 = kvAt m false c := h2.trans (before_2 m c d2)
  subst h0 h1 h2
  unfold Dat.owesAt Pipeline.owesWithin
  icases Ho with ⟨%W, %hW, HO⟩
  rw [show (dats m 0 c).owed t0_0.castSucc = O₀ c from rfl]
  iapply (run_body (kvAt m) (qAt m) K c (fun _ => bodyPost m c))
  unfold pre ins out
  isplitl
  · isplitl [Hg]; · iexact Hg
    isplitl [Hc]; · iexact Hc
    isplitl [Hs]; · iexact Hs
    isplitl [HO]; · unfold owing; iexists W; iexact HO
    isplitl [H0 H1 H2]
    · isplitl [H0]; · iexact H0
      isplitl [H1]; · iexact H1
      iexact H2
    iexists f3; iexact H3
  unfold post bodyPost ins out owing Dat.owesAt Pipeline.owesWithin
  rw [show (dats m 0 c).owed t0_0.succ = 0 from rfl]
  iintro ⟨Hs, Hz, ⟨%W', HO⟩, ⟨H0, H1, H2⟩, H3⟩
  isplitl [Hs Hz]
  · isplitl [Hs]; · iexact Hs
    iexact Hz
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 4000 in
theorem body_obligation (c : Dev nD) : BodyObligation (dats (F := F) m 0 c) (defs₀ (F := F)) 𝒱₀ () Set.univ := fun t => by
  rw [fin_N t]
  rw [bigSep_W, bigSep_W]
  simp only [owns_whole_eq]
  exact sound_body m c

/-! ## The ghost state at launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × CI → GSem nD τ sig) := by
  rintro ⟨c, k⟩ ⟨c', k'⟩ h
  have h1 : c = c' := congrArg (fun g : GSem nD τ sig => g.1.1) h
  subst h1
  exact congrArg (Prod.mk c) (csem_injective (congrArg Prod.snd h))
def allCells : Finset (GSem nD τ sig) := Finset.univ.map ⟨kcell, kcell_injective⟩

/-- The duties of a device's cells: the barrier's three, the others' one. -/
abbrev TI : Type := Fin 3 ⊕ (Bool × Fin 3 × Fin 2)
abbrev cellAt : TI → CI
  | .inl _ => none
  | .inr k => some k
abbrev dutyAt : TI → Fin 3
  | .inl d => d
  | .inr _ => 0
abbrev tokOf (ct : Dev nD × TI) : GSem nD τ sig × ℕ × Fin 3 := (kcell (ct.1, cellAt ct.2), 0, dutyAt ct.2)
theorem tokOf_injective : Function.Injective tokOf := by
  rintro ⟨c, t⟩ ⟨c', t'⟩ h
  have hc := kcell_injective (congrArg Prod.fst h)
  have hd : dutyAt t = dutyAt t' := congrArg (fun x : GSem nD τ sig × ℕ × Fin 3 => x.2.2) h
  obtain rfl : c = c' := congrArg Prod.fst hc
  have hk : cellAt t = cellAt t' := congrArg Prod.snd hc
  rcases t with d | k <;> rcases t' with d' | k'
  · rw [show d = d' from hd]
  · cases hk
  · cases hk
  · rw [show k = k' from Option.some.inj hk]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop(dutyTok ER (barCell c) 0 0 ∗ dutyTok ER (barCell c) 0 1 ∗ dutyTok ER (barCell c) 0 2
    ∗ each (fun h j => dutyTok ER (sendCell c h j) 0 0) ∗ each (fun h j => dutyTok ER (recvCell c h j) 0 0))

omit [FloatOps F] in
theorem toks_eq (c : Dev nD) : (bigSep Finset.univ fun t : TI => (dutyTok ER (kcell (c, cellAt t)) 0 (dutyAt t) : sProp 𝕄)) = toks c := by
  unfold toks
  rw [bigSep_univ_sum, bigSep_pairs, bigSep_univ_eq_bigSepL [0, 1, 2] (by decide) (by decide), bigSepL_cons_cons, bigSepL_cons_cons, bigSepL_singleton]
  exact (sep_regroup _ _ _).trans (congrArg (fun X => iprop(_ ∗ X)) (sep_regroup _ _ _))

/-- What the launch deals device `c`. -/
def G (c : Dev nD) : sProp 𝕄 :=
  iprop((bigSep Finset.univ fun k : CI => roundState ER (sched (kvAt m)) (kcell (c, k)) 0)
    ∗ (bigSep Finset.univ fun k : CI => iprop(atPos ER (kcell (c, k)) 0 ∅ 0 ∗ reached ER (kcell (c, k)) 0)) ∗ toks c)
/-- What it becomes. -/
def G' (c : Dev nD) : sProp 𝕄 := iprop(∃ K, ghost (kvAt m) K c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (sched (kvAt m)) allCells allToks) $$ HX with ⟨Hst, Hr, Hat, Htok⟩
  imodintro
  ihave Hst' := (Entails.of_eq (hX fun g => roundState ER (sched (kvAt m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(each (fun h j => semVal (sendCell c h j) 0) ∗ each (fun h j => semVal (recvCell c h j) 0)) := by
  unfold Pipeline.ownSems0; rw [bigSep_pairs]
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_cells]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (kvAt m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (sched (kvAt m)) (kcell (c, k)) 0)
      ⊢ (|={Set.univ}=> bigSep Finset.univ fun k => iprop(∃ κ : ℕ, cellInv ER (sched (kvAt m)) κ (kcell (c, k))) : sProp 𝕄) from by
        rw [← bigSep_sep']
        exact (bigSep_mono fun k _ => (Rounds.body_intro ER (sched (kvAt m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The devices along the ring, across the pairs, and to where the copies of a direction go. -/
def ringE : Dev nD ≃ Dev nD := ⟨nxt, prv, prv_nxt, nxt_prv⟩
def parE : Dev nD ≃ Dev nD := ⟨par, par, par_par, par_par⟩
def peerE (j : Fin 2) : Dev nD ≃ Dev nD := ⟨peer j, peer' j, peer'_peer j, peer_peer' j⟩

omit [FloatOps F] in
theorem bigSep_each (Φ : Dev nD → Fin 3 → Fin 2 → sProp 𝕄) :
    (bigSep Finset.univ fun c : Dev nD => each (Φ c)) = each fun h j => bigSep Finset.univ fun c => Φ c h j := by
  unfold each
  rw [bigSep_sep', bigSep_sep', bigSep_sep', bigSep_sep', bigSep_sep']

omit [FloatOps F] in
/-- The tokens dealt to those who pay. -/
theorem toks_around : (bigSep Finset.univ fun c : Dev nD => (toks c : sProp 𝕄)) ⊢ bigSep Finset.univ fun c : Dev nD => payToks c := by
  have hr : (bigSep Finset.univ fun c : Dev nD => each fun h j => (dutyTok ER (recvCell c h j) 0 0 : sProp 𝕄))
      = bigSep Finset.univ fun c : Dev nD => each fun h j => dutyTok ER (recvCell (peer j c) h j) 0 0 := by
    rw [bigSep_each, bigSep_each]
    refine congrArg each (funext fun h => funext fun j => ?_)
    exact bigSep_univ_equiv (peerE j) (fun c : Dev nD => (dutyTok ER (recvCell c h j) 0 0 : sProp 𝕄))
  unfold toks payToks
  rw [bigSep_sep', bigSep_sep', bigSep_sep', bigSep_sep', bigSep_sep', bigSep_sep', bigSep_sep', bigSep_sep', hr,
    bigSep_univ_equiv ringE.symm (fun c : Dev nD => (dutyTok ER (barCell c) 0 0 : sProp 𝕄)),
    bigSep_univ_equiv parE (fun c : Dev nD => (dutyTok ER (barCell c) 0 1 : sProp 𝕄)),
    bigSep_univ_equiv ringE (fun c : Dev nD => (dutyTok ER (barCell c) 0 2 : sProp 𝕄))]
  iintro ⟨H1, H2, H3, H4, H5⟩
  isplitl [H1]; · iexact H1
  isplitl [H2]; · iexact H2
  isplitl [H3]; · iexact H3
  isplitl [H5]; · iexact H5
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) : iprop(records (kvAt m) K ∗ atToks c ∗ payToks c) ⊢ G' m c := by
  unfold G' ghost
  iintro H
  iexists K; iexact H

theorem regroup :
    (bigSep Finset.univ fun c : Dev nD => iprop((bigSep Finset.univ fun k => iprop(∃ κ : ℕ, cellInv ER (sched (kvAt m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (sched (kvAt m)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched (kvAt m)) κ (kcell ck) : sProp 𝕄))) $$ HI
  icases HK with ⟨%K, #HI⟩
  ihave Htk := (toks_around (F := F)) $$ Htok
  iapply (bigSep_with_persistent (R := records (kvAt m) K) fun c _ => ghost_intro m K c)
  isplitr
  · unfold records; isplitl; · iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => show _ ⊢ iprop(atToks c ∗ payToks c) from Entails.of_eq (by unfold atToks; rw [bigSep_cells])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem tally_at (g g' : GSem nD τ sig) (n : ℕ) (p : Prop) [Decidable p] (h : g' = g ↔ p) :
    (tallyAt g () n : CellTallies nD τ sig Unit) g' () = if p then n else 0 := by
  rw [tallyAt_apply]
  by_cases hp : p
  · rw [if_pos ⟨h.mpr hp, rfl⟩, if_pos hp]
  · rw [if_neg (fun e => hp (h.mp e.1)), if_neg hp]

theorem bar_ne_recv (c d : Dev nD) (h : Fin 3) (j : Fin 2) : recvCell c h j ≠ barCell d := fun e => by cases congrArg Prod.snd e
theorem bar_inj {a b : Dev nD} (h : barCell a = barCell b) : a = b := congrArg (fun g : GSem nD τ sig => g.1.1) h
theorem recv_inj {a b : Dev nD} {h h' : Fin 3} {j j' : Fin 2} (e : recvCell a h j = recvCell b h' j') : a = b ∧ h = h' ∧ j = j' := by
  have := kcell_injective (a₁ := (a, some (true, h, j))) (a₂ := (b, some (true, h', j'))) e
  simp only [Prod.mk.injEq, Option.some.injEq, true_and] at this
  exact this

/-- For a list without repetitions a copy is owed once, to the device it goes to. -/
theorem pend_recv (d c : Dev nD) (h : Fin 3) (j : Fin 2) : (l : List (Fin 3 × Fin 2)) → l.Nodup →
    pend d l (recvCell c h j) () = if (h, j) ∈ l ∧ d = peer' j c then N else 0
  | [], _ => by rw [if_neg (fun h => by cases h.1)]; rfl
  | (h', j') :: l, hn => by
    show (pend d l + tallyAt (recvCell (peer j' d) h' j') () N) (recvCell c h j) () = _
    rw [Pi.add_apply, Finsupp.add_apply, pend_recv d c h j l (List.nodup_cons.mp hn).2,
      tally_at _ _ _ ((h, j) = (h', j') ∧ d = peer' j c) ⟨fun e => by
        obtain ⟨rfl, rfl, rfl⟩ := recv_inj e
        exact ⟨rfl, (peer'_peer j d).symm⟩, fun ⟨e, hd⟩ => by
        obtain ⟨rfl, rfl⟩ := Prod.mk.inj e
        rw [hd, peer_peer']⟩]
    have hnm := (List.nodup_cons.mp hn).1
    by_cases hd : d = peer' j c
    · by_cases e : (h, j) = (h', j')
      · rw [if_neg (fun x => hnm (e ▸ x.1)), if_pos ⟨e, hd⟩, if_pos ⟨e ▸ List.mem_cons_self, hd⟩, Nat.zero_add]
      · rw [if_neg (fun x : (h, j) = (h', j') ∧ _ => e x.1), Nat.add_zero]
        by_cases hm : (h, j) ∈ l
        · rw [if_pos ⟨hm, hd⟩, if_pos ⟨List.mem_cons_of_mem _ hm, hd⟩]
        · rw [if_neg (fun x => hm x.1), if_neg (fun x => (List.mem_cons.mp x.1).elim e hm)]
    · rw [if_neg (fun x => hd x.2), if_neg (fun x => hd x.2), if_neg (fun x => hd x.2)]

theorem pend_bar (d c : Dev nD) (l : List (Fin 3 × Fin 2)) : pend d l (barCell c) () = 0 := by
  by_contra hne
  obtain ⟨p, -, e⟩ := pend_pos (Nat.pos_of_ne_zero hne)
  exact bar_ne_recv _ _ _ _ e.symm

/-- What device `d` owes device `c`'s barrier cell, -/
theorem owed_bar (d c : Dev nD) : O₀ d (barCell c) () = (if d = par c then 1 else 0) + (if d = prv c then 1 else 0) + (if d = nxt c then 1 else 0) := by
  unfold O₀ O₁ O₂
  rw [Pi.add_apply, Finsupp.add_apply, Pi.add_apply, Finsupp.add_apply, Pi.add_apply, Finsupp.add_apply, pend_bar, Nat.zero_add,
    tally_at _ _ _ (d = par c) ⟨fun e => by rw [bar_inj e, par_par], fun e => by rw [e, par_par]⟩,
    tally_at _ _ _ (d = prv c) ⟨fun e => by rw [bar_inj e, prv_nxt], fun e => by rw [e, nxt_prv]⟩,
    tally_at _ _ _ (d = nxt c) ⟨fun e => by rw [bar_inj e, nxt_prv], fun e => by rw [e, prv_nxt]⟩]

/-- and its receive cells. -/
theorem owed_recv (d c : Dev nD) (h : Fin 3) (j : Fin 2) : O₀ d (recvCell c h j) () = if d = peer' j c then N else 0 := by
  have hm : (h, j) ∈ hops := by revert h j; decide
  unfold O₀ O₁ O₂
  rw [Pi.add_apply, Finsupp.add_apply, Pi.add_apply, Finsupp.add_apply, Pi.add_apply, Finsupp.add_apply, pend_recv d c h j hops (by decide),
    tallyAt_ne_cell (bar_ne_recv _ _ _ _), tallyAt_ne_cell (bar_ne_recv _ _ _ _), tallyAt_ne_cell (bar_ne_recv _ _ _ _),
    Finsupp.zero_apply, Nat.add_zero, Nat.add_zero, Nat.add_zero]
  by_cases hd : d = peer' j c
  · rw [if_pos ⟨hm, hd⟩, if_pos hd]
  · rw [if_neg (fun x => hd x.2), if_neg hd]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (par c) fun _ => 1, Finset.sum_ite_eq' Finset.univ (nxt c) fun _ => 1, Finset.sum_ite_eq' Finset.univ (prv c) fun _ => 1,
    if_pos (Finset.mem_univ _), if_pos (Finset.mem_univ _), if_pos (Finset.mem_univ _)]

theorem launch_recv (c : Dev nD) (h : Fin 3) (j : Fin 2) :
    tallyOn (recvCell c h j) (launchCredit (Pipeline.owing O₀) 0 (recvCell c h j)) = (tallyAt (recvCell c h j) () N : CellTallies nD τ sig Unit) := by
  unfold tallyAt; refine congrArg _ (Finsupp.ext fun u => ?_); cases u
  rw [Pipeline.launchCredit_owing, Finsupp.single_eq_same, Finset.sum_congr rfl fun d _ => owed_recv d c h j,
    Finset.sum_ite_eq' Finset.univ (peer' j c) fun _ => N, if_pos (Finset.mem_univ _)]

omit [FloatOps F] in
theorem creds (c : Dev nD) :
    (Pipeline.launchCred O₀ c : sProp 𝕄) ⊢ iprop(cred (tallyAt (barCell c) () 3) ∗ each (fun h j => cred (tallyAt (recvCell c h j) () N))) := by
  unfold Pipeline.launchCred
  refine (bigSep_subset (Finset.subset_univ (Finset.univ.map ⟨csem, csem_injective⟩))).trans ?_
  rw [bigSep_map, bigSep_cells]
  rw [← launch_bar c, show (each fun h j => (cred (tallyAt (recvCell c h j) () N) : sProp 𝕄))
      = each fun h j => cred (tallyOn (recvCell c h j) (launchCredit (Pipeline.owing O₀) 0 (recvCell c h j))) from
    congrArg each (funext fun h => funext fun j => congrArg cred (launch_recv c h j).symm)]
  show iprop(cred (tallyOn (barCell c) (launchCredit (Pipeline.owing O₀) 0 (barCell c)))
    ∗ each (fun h j => cred (tallyOn (sendCell c h j) (launchCredit (Pipeline.owing O₀) 0 (sendCell c h j))))
    ∗ each (fun h j => cred (tallyOn (recvCell c h j) (launchCredit (Pipeline.owing O₀) 0 (recvCell c h j))))) ⊢ _
  iintro ⟨HB, -, HR⟩
  isplitl [HB]; · iexact HB
  iexact HR

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G' credits
  isplitl
  · isplitl [HG]; · iexact HG
    isplitl [H1]; · iexact H1
    isplitl [HN]; · iexact HN
    iexact Hlev
  · iempintro

omit [FloatOps F] in
theorem scratch_eq (c : Dev nD) : (Pipeline.scopedRest cfg0.spec c : sProp 𝕄) = scratch c := (scopedRest0_eq c).trans rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scratch_eq]
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(scratch c ∗ zeros c) from rfl, scratch_eq, ownSems0_eq, unscopedSems0_eq]
  unfold zeros
  iintro ⟨Hr, HzB, HzS, HzV⟩
  isplitl [HzB]; · iexact HzB
  isplitl [HzS HzV]
  · isplitl [HzS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- A window's array after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- On the mesh of 32 devices, for any float values, from any memory with zero counters: every weakly fair execution ends,
    with each window's array at `finalA` on each device and every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_0 (c : Dev nD) : finalA m c (0 : Fin 4) = m (win0_0.arr.view.loc (c : Thread nD τ)) := (dats (F := F) m 0 c).arrAt_in (0 : Fin 4) rfl _
theorem finalA_1 (c : Dev nD) : finalA m c (1 : Fin 4) = m (win0_1.arr.view.loc (c : Thread nD τ)) := (dats (F := F) m 0 c).arrAt_in (1 : Fin 4) rfl _
theorem finalA_2 (c : Dev nD) : finalA m c (2 : Fin 4) = m (win0_2.arr.view.loc (c : Thread nD τ)) := (dats (F := F) m 0 c).arrAt_in (2 : Fin 4) rfl _

end Cert.Attn
-- ==== Proof.Softmax.lean ====
/-
# The quotient of sums and the sum of quotients

For finite scores and any values: the exponentials' weighted sum divided by their sum is the weighted sum of the quotients
of the exponentials taken after a finite shift.
-/
module

public import Idealize.ShloMosaic.Lib.IdealHost

@[expose] public section

namespace Cert.Attn

open Idealize.ShloMosaic
open scoped BigOperators

/-- A real sum's inclusion is the sum of the inclusions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.mpr hc) (EReal.coe_ne_top c), ih]

/-- The largest of finitely many reals, started from −∞, is a real. -/
theorem fold_max_coe {n : ℕ} (hn : 0 < n) (S : Fin n → ℝ) :
    ∃ M : ℝ, Finset.univ.fold max (⊥ : EReal) (fun k => (S k : EReal)) = (M : EReal) := by
  obtain ⟨i, -, hi⟩ := Finset.exists_mem_eq_sup (Finset.univ : Finset (Fin n)) ⟨⟨0, hn⟩, Finset.mem_univ _⟩ (fun k => (S k : EReal))
  exact ⟨S i, hi⟩

/-- The quotient of sums is the sum of quotients of the shifted exponentials. -/
theorem softmax {n : ℕ} (hn : 0 < n) (S : Fin n → ℝ) (V : Fin n → EReal) (M : ℝ) :
    Ideal.div (∑ k, Ideal.exp (S k : EReal) * V k) (∑ k, Ideal.exp (S k : EReal))
      = ∑ k, V k * Ideal.div (Ideal.exp ((S k : EReal) - (M : EReal))) (∑ k', Ideal.exp ((S k' : EReal) - (M : EReal))) := by
  have hne : (Finset.univ : Finset (Fin n)).Nonempty := ⟨⟨0, hn⟩, Finset.mem_univ _⟩
  have hZ : 0 < ∑ k, Real.exp (S k) := Finset.sum_pos (fun k _ => Real.exp_pos _) hne
  have hY : 0 < ∑ k, Real.exp (S k - M) := Finset.sum_pos (fun k _ => Real.exp_pos _) hne
  have e : ∑ k, Real.exp (S k) = (∑ k, Real.exp (S k - M)) * Real.exp M := by
    rw [Finset.sum_mul]
    exact Finset.sum_congr rfl fun k _ => by rw [← Real.exp_add, sub_add_cancel]
  have h1 : (∑ k, Ideal.exp (S k : EReal)) = ((∑ k, Real.exp (S k) : ℝ) : EReal) := by
    rw [coe_sum]; exact Finset.sum_congr rfl fun k _ => Ideal.exp_coe _
  have h2 : (∑ k, Ideal.exp ((S k : EReal) - (M : EReal))) = ((∑ k, Real.exp (S k - M) : ℝ) : EReal) := by
    rw [coe_sum]; exact Finset.sum_congr rfl fun k _ => by rw [← EReal.coe_sub, Ideal.exp_coe]
  rw [h1, h2, Ideal.div_coe hZ.ne', sum_mul_coe _ _ (one_div_pos.mpr hZ).le]
  refine Finset.sum_congr rfl fun k _ => ?_
  rw [← EReal.coe_sub, Ideal.exp_coe, Ideal.exp_coe, Ideal.div_coe hY.ne', ← EReal.coe_mul, mul_comm (Real.exp (S k) : EReal) (V k), mul_assoc, ← EReal.coe_mul]
  refine congrArg (fun x : ℝ => V k * (x : EReal)) ?_
  rw [e, Real.exp_sub]
  have := (Real.exp_pos M).ne'
  field_simp

/-! ## The constants -/

/-- The 16-bit and the 32-bit pattern of one eighth, -/
theorem eighth_bf16 : Ideal.ofBits .bf16 0x3E00#16 = (((1 : ℝ) / 8 : ℝ) : EReal) := by
  simp [Ideal.ofBits, Ideal.ieee, -EReal.coe_mul]; norm_num
theorem eighth_f32 : Ideal.ofBits .f32 0x3E000000#32 = (((1 : ℝ) / 8 : ℝ) : EReal) := by
  simp [Ideal.ofBits, Ideal.ieee, -EReal.coe_mul]; norm_num
/-- of −∞, -/
theorem neg_inf_f32 : Ideal.ofBits .f32 0xFF800000#32 = ⊥ := by
  simp [Ideal.ofBits, Ideal.ieee]
/-- and of ∞. -/
theorem inf_bf16 : Ideal.ofBits .bf16 0x7F80#16 = ⊤ := by
  simp [Ideal.ofBits, Ideal.ieee]

/-- A finite extended real is a real. -/
theorem coe_of_abs_lt {x : EReal} (h : max x (-x) < ⊤) : ∃ r : ℝ, x = (r : EReal) := by
  induction x with
  | bot => exact absurd h (by simp)
  | coe r => exact ⟨r, rfl⟩
  | top => exact absurd h (by simp)

/-- The scaled score: one eighth on each query entry, or on the sum. -/
theorem score_scaled {n : ℕ} (q k : Fin n → ℝ) :
    (∑ e, ((q e : EReal) * (((1 : ℝ) / 8 : ℝ) : EReal)) * (k e : EReal)) = (((∑ e, q e * k e) * (1 / 8) : ℝ) : EReal)
      ∧ (∑ e, (q e : EReal) * (k e : EReal)) * (((1 : ℝ) / 8 : ℝ) : EReal) = (((∑ e, q e * k e) * (1 / 8) : ℝ) : EReal) := by
  constructor
  · rw [Finset.sum_mul, coe_sum]
    exact Finset.sum_congr rfl fun e _ => by rw [← EReal.coe_mul, ← EReal.coe_mul]; exact congrArg _ (by ring)
  · rw [EReal.coe_mul, coe_sum]
    exact congrArg (· * _) (Finset.sum_congr rfl fun e _ => (EReal.coe_mul _ _).symm)

/-- Column `e` of head `h`. -/
def col (h : Fin 16) (e : Fin 64) : Fin 1024 := ⟨64 * h.val + e.val, by have := h.isLt; have := e.isLt; omega⟩

end Cert.Attn
-- ==== Proof.Rows.lean ====
/-
# One head's arithmetic at an index

At the extended reals: the scores of one slot, their row sums, their product with the values, and the two buffers
after all four slots.
-/
module

public import proofs.«01_k».proof.Proof.Store
public import proofs.«01_k».proof.Proof.Softmax
public import Idealize.ShloMosaic.Lib.Pointwise

@[expose] public section

noncomputable section

namespace Cert.Attn

open Cert.KernelIdeal Cert.KernelIdeal.Gen
open Idealize.ShloMosaic
open scoped BigOperators

variable (q : Vec Ideal S4x256x64 .bf16) (k v : Vec Ideal S1x4x256x64 .bf16)

/-- The score of row `i` against row `j`. -/
def dotqk (b : Fin 4) (i j : Fin 256) : EReal := ∑ e : Fin 64, (q (ix3 b i e) : EReal) * k (ix4 (0 : Fin 1) b j e)

theorem scr_apply (b : Fin 4) (i j : Fin 256) : scr q k (ix3 b i j) = Ideal.exp (dotqk q k b i j) := by
  unfold dotqk
  pointwise [scr]

theorem rsum_apply (b : Fin 4) (i : Fin 256) : rsum q k (ix3 b i (0 : Fin 1)) = ∑ j, Ideal.exp (dotqk q k b i j) := by
  simp only [← scr_apply]
  pointwise [rsum]

theorem pvp_apply (b : Fin 4) (i : Fin 256) (d : Fin 64) :
    pvp q k v (ix3 b i d) = ∑ j, Ideal.exp (dotqk q k b i j) * (v (ix4 (0 : Fin 1) b j d) : EReal) := by
  simp only [← scr_apply]
  pointwise [pvp]

/-- What each stage stores of a head, -/
theorem acc0_apply (x : S4x256x64.Idx) : acc0 q k v x = pvp q k v x := by pointwise [acc0]
theorem acc1_apply (a : Vec Ideal S4x256x64 .f32) (x : S4x256x64.Idx) : acc1 q k v a x = (a x : EReal) + pvp q k v x := by pointwise [acc1]
theorem l0_apply (x : S4x256x64.Idx) : l0 q k x = rsum q k (ix3 (n0 := 4) (n1 := 256) (x 0) (x 1) (0 : Fin 1)) := by pointwise [l0]
theorem l1_apply (l : Vec Ideal S4x256x64 .f32) (x : S4x256x64.Idx) :
    l1 q k l x = (l x : EReal) + rsum q k (ix3 (n0 := 4) (n1 := 256) (x 0) (x 1) (0 : Fin 1)) := by pointwise [l1]
/-- the scaled queries, and the stored quotient. -/
theorem pay4_apply (X : Vec Ideal S4x256x1024 .bf16) (x : S4x256x1024.Idx) :
    k0_pay4 X x = (X x : EReal) * Ideal.ofBits .bf16 0x3E00#16 := by pointwise [k0_pay4]
theorem pay259_apply (a l : Vec Ideal S4x256x1024 .f32) (x : S4x256x1024.Idx) : k0_pay259 a l x = Ideal.div (a x) (l x) := by
  pointwise [k0_pay259]

/-! ## The two buffers -/

theorem headIx_ix3 (h : Fin 16) (b : Fin 4) (i : Fin 256) (e : Fin 64) : headIx h (ix3 b i e) = ix3 b i (col h e) := by
  funext a
  match a with
  | ⟨0, _⟩ => rfl
  | ⟨1, _⟩ => rfl
  | ⟨2, _⟩ => rfl

theorem colsOf_ix3 (X : Blk EReal) (h : Fin 16) (b : Fin 4) (i : Fin 256) (e : Fin 64) : colsOf X h (ix3 b i e) = X (ix3 b i (col h e)) :=
  congrArg X (headIx_ix3 h b i e)
theorem scolsOf_ix4 (X : Blk EReal) (h : Fin 16) (b : Fin 4) (i : Fin 256) (e : Fin 64) :
    scolsOf X h (ix4 (0 : Fin 1) b i e) = X (ix3 b i (col h e)) :=
  (congrArg (fun x => X (headIx h x)) (ix3_eq_valueIdx b i e).symm).trans (congrArg X (headIx_ix3 h b i e))

variable (Q : Blk (Elt Ideal .bf16)) (K V : Fin 4 → Blk (Elt Ideal .bf16))

/-- The score of row `i` of a block against row `j` of another, in head `h`. -/
def dotblk (X Y : Blk EReal) (b : Fin 4) (h : Fin 16) (i j : Fin 256) : EReal :=
  ∑ e : Fin 64, X (ix3 b i (col h e)) * Y (ix3 b j (col h e))

theorem dotqk_cols (X Y : Blk (Elt Ideal .bf16)) (b : Fin 4) (h : Fin 16) (i j : Fin 256) :
    dotqk (colsOf X h) (scolsOf Y h) b i j = dotblk X Y b h i j :=
  Finset.sum_congr rfl fun e _ => congrArg₂ (· * ·) (colsOf_ix3 X h b i e) (scolsOf_ix4 Y h b j e)

theorem accN_sum (x : S4x256x1024.Idx) :
    accN Q K V 3 x = ∑ s : Fin 4, pvp (colsOf Q (hd x)) (scolsOf (K s) (hd x)) (scolsOf (V s) (hd x)) (lane x) := by
  have step (n : Nat) : accN Q K V (n + 1) x = (accN Q K V n x : EReal)
      + pvp (colsOf Q (hd x)) (scolsOf (K (Fin.ofNat 4 (n + 1))) (hd x)) (scolsOf (V (Fin.ofNat 4 (n + 1))) (hd x)) (lane x) := by
    refine (acc1_apply _ _ _ _ (lane x)).trans ?_
    rw [show colsOf (accN Q K V n) (hd x) (lane x) = accN Q K V n x from congrArg _ (headIx_hd x)]
  rw [step 2, step 1, step 0, Fin.sum_univ_four, show accN Q K V 0 x = _ from acc0_apply _ _ _ (lane x)]
  rfl

theorem lN_sum (x : S4x256x1024.Idx) :
    lN Q K 3 x = ∑ s : Fin 4, rsum (colsOf Q (hd x)) (scolsOf (K s) (hd x)) (ix3 (n0 := 4) (n1 := 256) (x 0) (x 1) (0 : Fin 1)) := by
  have step (n : Nat) : lN Q K (n + 1) x = (lN Q K n x : EReal)
      + rsum (colsOf Q (hd x)) (scolsOf (K (Fin.ofNat 4 (n + 1))) (hd x)) (ix3 (n0 := 4) (n1 := 256) (x 0) (x 1) (0 : Fin 1)) := by
    refine (l1_apply _ _ _ (lane x)).trans ?_
    rw [show colsOf (lN Q K n) (hd x) (lane x) = lN Q K n x from congrArg _ (headIx_hd x)]
    rfl
  rw [step 2, step 1, step 0, Fin.sum_univ_four, show lN Q K 0 x = _ from l0_apply _ _ (lane x)]
  rfl

theorem hd_col (b : Fin 4) (i : Fin 256) (h : Fin 16) (d : Fin 64) : hd (ix3 b i (col h d)) = h :=
  (congrArg hd (headIx_ix3 h b i d).symm).trans (hd_headIx h _)
theorem lane_col (b : Fin 4) (i : Fin 256) (h : Fin 16) (d : Fin 64) : lane (ix3 b i (col h d)) = ix3 b i d :=
  (congrArg lane (headIx_ix3 h b i d).symm).trans (lane_headIx h _)

/-- The numerator, -/
theorem accN_apply (b : Fin 4) (i : Fin 256) (h : Fin 16) (d : Fin 64) :
    accN Q K V 3 (ix3 b i (col h d)) = ∑ s : Fin 4, ∑ j, Ideal.exp (dotblk Q (K s) b h i j) * (V s (ix3 b j (col h d)) : EReal) := by
  rw [accN_sum, hd_col, lane_col]
  refine Finset.sum_congr rfl fun s _ => (pvp_apply _ _ _ b i d).trans (Finset.sum_congr rfl fun j _ => ?_)
  rw [dotqk_cols]
  exact congrArg _ (scolsOf_ix4 (V s) h b j d)

/-- and the denominator. -/
theorem lN_apply (b : Fin 4) (i : Fin 256) (h : Fin 16) (d : Fin 64) :
    lN Q K 3 (ix3 b i (col h d)) = ∑ s : Fin 4, ∑ j, Ideal.exp (dotblk Q (K s) b h i j) := by
  rw [lN_sum, hd_col]
  exact Finset.sum_congr rfl fun s _ => (rsum_apply _ _ b i).trans (Finset.sum_congr rfl fun j _ => by rw [dotqk_cols])

end Cert.Attn
-- ==== Proof.Reference.lean ====
/-
# The reference at an index

At the extended reals the reference's result in row `r`, head `h`, lane `d` is the sum over all rows of the values times the
quotients of shifted exponentials.
-/
module

public import proofs.«01_k».proof.Proof.Softmax
public import proofs.«01_k».proof.Proof.Gen.ReferenceIdeal
public import Idealize.ShloMosaic.Lib.Pointwise

@[expose] public section

noncomputable section

namespace Cert.Attn.Ref

open Cert.ReferenceIdeal Cert.ReferenceIdeal.Gen
open Idealize.ShloMosaic
open scoped BigOperators

variable (Q K V : FVec Ideal S4x1024x1024 .bf16)

/-- An argument with its columns cut into heads. -/
def cut (X : FVec Ideal S4x1024x1024 .bf16) : FVec Ideal S4x1024x16x64 .f32 :=
  shapeCast _ (extf .f32 X bitsLt_bf16_f32) shapeCasts_S4x1024x1024_S4x1024x16x64
/-- The scaled scores. -/
def scores : FVec Ideal S4x16x1024x1024 .f32 :=
  mulf (Host.dotGeneral dot_S4x1024x16x64_S4x1024x16x64_S4x16x1024x1024_3_3_1_1_02_02 none (cut Q) (cut K))
    (broadcastInDim S4x16x1024x1024 ![] bcast_S_S4x16x1024x1024 (constant S_ .f32 0x3E000000#32))
/-- A row statistic copied along its row. -/
def spread (x : FVec Ideal S4x16x1024 .f32) : FVec Ideal S4x16x1024x1024 .f32 :=
  broadcastInDim S4x16x1024x1024 ![0, 1, 2, 3] bcast_S4x16x1024x1_S4x16x1024x1024_0_1_2_3
    (broadcastInDim S4x16x1024x1 ![0, 1, 2] bcast_S4x16x1024_S4x16x1024x1_0_1_2 x)
/-- Each row's largest score. -/
def rowMax : FVec Ideal S4x16x1024 .f32 :=
  Host.reduce FloatOps.maximumf (scores Q K) (constant S_ .f32 0xFF800000#32) reducesTo_S4x16x1024x1024_S4x16x1024_d3 h_S_
/-- The shifted exponentials. -/
def weights : FVec Ideal S4x16x1024x1024 .f32 := Host.exp (subf (scores Q K) (spread (rowMax Q K)))
/-- Their row sums. -/
def rowSum : FVec Ideal S4x16x1024 .f32 :=
  Host.reduceAdd (weights Q K) (constant S_ .f32 0x00000000#32) reducesTo_S4x16x1024x1024_S4x16x1024_d3 h_S_
/-- The result. -/
def out : FVec Ideal S4x1024x1024 .f32 :=
  shapeCast _ (transpose S4x1024x16x64 [0, 3, 1, 2]
    (Host.dotGeneral dot_S4x1024x16x64_S4x16x1024x1024_S4x16x64x1024_1_3_3_2_02_01 none (cut V)
      (Host.divf (weights Q K) (spread (rowSum Q K)))) transposes_S4x16x64x1024_S4x1024x16x64_0_3_1_2) shapeCasts_S4x1024x16x64_S4x1024x1024

theorem cut_apply (X : FVec Ideal S4x1024x1024 .bf16) (b : Fin 4) (r : Fin 1024) (h : Fin 16) (e : Fin 64) :
    cut X (ix4 b r h e) = X (ix3 b r (col h e)) := by
  pointwise [cut]
  exact congrArg (fun c => X (ix3 b r c)) (Fin.ext (congrArg (· + e.val) (Nat.mul_comm _ _)))

theorem scores_apply (b : Fin 4) (h : Fin 16) (r k : Fin 1024) :
    scores Q K (ix4 b h r k) = (∑ e : Fin 64, (cut Q (ix4 b r h e) : EReal) * cut K (ix4 b k h e)) * Ideal.ofBits .f32 0x3E000000#32 := by
  pointwise [scores]

theorem spread_apply (x : FVec Ideal S4x16x1024 .f32) (b : Fin 4) (h : Fin 16) (r k : Fin 1024) : spread x (ix4 b h r k) = x (ix3 b h r) := by
  pointwise [spread]

theorem rowMax_apply (b : Fin 4) (h : Fin 16) (r : Fin 1024) :
    rowMax Q K (ix3 b h r) = Finset.univ.fold max (Ideal.ofBits .f32 0xFF800000#32) (fun k : Fin 1024 => (scores Q K (ix4 b h r k) : EReal)) := by
  pointwise [rowMax]

theorem weights_apply (b : Fin 4) (h : Fin 16) (r k : Fin 1024) :
    weights Q K (ix4 b h r k) = Ideal.exp ((scores Q K (ix4 b h r k) : EReal) - rowMax Q K (ix3 b h r)) := by
  rw [← spread_apply (rowMax Q K) b h r k]
  pointwise [weights]

theorem rowSum_apply (b : Fin 4) (h : Fin 16) (r : Fin 1024) :
    rowSum Q K (ix3 b h r) = ∑ k : Fin 1024, (weights Q K (ix4 b h r k) : EReal) := by
  pointwise [rowSum]

theorem out_apply (b : Fin 4) (r : Fin 1024) (h : Fin 16) (d : Fin 64) :
    out Q K V (ix3 b r (col h d))
      = ∑ k : Fin 1024, (V (ix3 b k (col h d)) : EReal) * Ideal.div (weights Q K (ix4 b h r k)) (rowSum Q K (ix3 b h r)) := by
  have e : out Q K V (ix3 b r (col h d))
      = ∑ k : Fin 1024, (cut V (ix4 b k h d) : EReal) * Ideal.div (weights Q K (ix4 b h r k)) (spread (rowSum Q K) (ix4 b h r k)) := by
    rw [show col h d = (⟨h.val * 64 + d.val, by have := h.isLt; have := d.isLt; omega⟩ : Fin 1024) from
      Fin.ext (congrArg (· + d.val) (Nat.mul_comm _ _))]
    pointwise [out]
  rw [e]
  exact Finset.sum_congr rfl fun k _ => by rw [cut_apply, spread_apply]

end Cert.Attn.Ref
-- ==== Proof.Value.lean ====
/-
# The kernel's block is the reference's

A device's slots hold the blocks of its ring's four places, each once, so its sums over slots and rows are sums over all
rows of the array; for finite queries and keys the quotient of those sums is the reference's row.
-/
module

public import proofs.«01_k».proof.Proof.Rows
public import proofs.«01_k».proof.Proof.Reference
public import proofs.«01_k».proof.Proof.Body
public import Idealize.ShloMosaic.Lib.Layout

@[expose] public section

noncomputable section

namespace Cert.Attn

open Cert.KernelIdeal Cert.KernelIdeal.Gen
open Idealize.ShloMosaic
open scoped BigOperators

/-- A whole array. -/
abbrev Arr : Type := Cert.ReferenceIdeal.S4x1024x1024.Idx → EReal

/-- Device `c`'s block of an array. -/
def blk (c : Dev nD) (X : Arr) : Blk EReal :=
  Layout.blockN ⟨3, ![4, 256, 1024]⟩ ⟨3, ![4, 1024, 1024]⟩ (Layout.meshBlock [2, 4, 4] ![[], [1], []] c) X

/-- Device `c`'s place on its ring. -/
def place (c : Dev nD) : Fin 4 := ⟨c.val / 4 % 4, Nat.mod_lt _ (by decide)⟩

/-- Row `i` of the block at place `p`. -/
def row (p : Fin 4) (i : Fin 256) : Fin 1024 := ⟨p.val * 256 + i.val, by have := p.isLt; have := i.isLt; omega⟩

theorem place_lin (c : Dev nD) : Layout.meshLin [2, 4, 4] c.val [1] = (place c).val := by revert c; decide

theorem blk_apply (c : Dev nD) (X : Arr) (b : Fin 4) (i : Fin 256) (l : Fin 1024) : blk c X (ix3 b i l) = X (ix3 b (row (place c) i) l) := by
  refine congrArg X (funext fun a => Fin.ext ?_)
  refine (Layout.TilesN.idx_val _ _ _ _).trans ?_
  match a with
  | ⟨0, _⟩ => exact (congrArg (· + b.val) (Nat.zero_mul _)).trans (Nat.zero_add _)
  | ⟨1, _⟩ => exact congrArg (· * 256 + i.val) (place_lin c)
  | ⟨2, _⟩ => exact (congrArg (· + l.val) (Nat.zero_mul _)).trans (Nat.zero_add _)

/-- The places of a device's slots are the same in both buffers, -/
theorem place_src (c : Dev nD) (s : Fin 4) : place (srcDev false c s) = place (srcDev true c s) := by revert c s; decide
/-- and each place is met once. -/
theorem place_bij (c : Dev nD) : Function.Bijective fun s => place (srcDev true c s) := by
  refine Finite.injective_iff_bijective.mp ?_
  revert c; decide

/-- A sum over the slots' rows is a sum over all rows. -/
theorem sum_rows (c : Dev nD) (f : Fin 1024 → EReal) : ∑ s, ∑ j, f (row (place (srcDev true c s)) j) = ∑ k, f k := by
  rw [Fin.sum_univ_tiles 4 256 rfl f]
  exact (place_bij c).sum_comp fun p => ∑ j, f (row p j)

variable (Q K V : Arr)

/-- The scaled score of two rows of the arrays. -/
def score (b : Fin 4) (h : Fin 16) (r k : Fin 1024) : EReal :=
  ∑ e : Fin 64, (Q (ix3 b r (col h e)) * Ideal.ofBits .bf16 0x3E00#16) * K (ix3 b k (col h e))

theorem dotblk_blk (c d : Dev nD) (b : Fin 4) (h : Fin 16) (i j : Fin 256) :
    dotblk (k0_pay4 (F := Ideal) (blk c Q)) (blk d K) b h i j = score Q K b h (row (place c) i) (row (place d) j) := by
  refine Finset.sum_congr rfl fun e _ => ?_
  rw [pay4_apply, blk_apply, blk_apply]

/-- The kernel's quotient as sums over all rows. -/
theorem outAt_apply (kv : Bool → Dev nD → Blk (Elt Ideal .bf16)) (qv : Dev nD → Blk (Elt Ideal .bf16))
    (hq : ∀ c, qv c = blk c Q) (hk : ∀ c, kv true c = blk c K) (hv : ∀ c, kv false c = blk c V)
    (c : Dev nD) (b : Fin 4) (i : Fin 256) (h : Fin 16) (d : Fin 64) :
    outAt kv qv c (ix3 b i (col h d))
      = Ideal.div (∑ k, Ideal.exp (score Q K b h (row (place c) i) k) * V (ix3 b k (col h d)))
          (∑ k, Ideal.exp (score Q K b h (row (place c) i) k)) := by
  unfold outAt
  rw [pay259_apply, accN_apply, lN_apply, hq]
  refine congrArg₂ Ideal.div ?_ ?_
  · refine Eq.trans (Finset.sum_congr rfl fun s _ => Finset.sum_congr rfl fun j _ => ?_)
      (sum_rows c fun k => Ideal.exp (score Q K b h (row (place c) i) k) * V (ix3 b k (col h d)))
    rw [hk, hv, dotblk_blk, blk_apply, place_src]
  · refine Eq.trans (Finset.sum_congr rfl fun s _ => Finset.sum_congr rfl fun j _ => ?_)
      (sum_rows c fun k => Ideal.exp (score Q K b h (row (place c) i) k))
    rw [hk, dotblk_blk]

/-- For finite queries and keys a score is a real, and both programs' scaling gives it. -/
theorem scores_real (hQ : ∀ i, ∃ r : ℝ, Q i = (r : EReal)) (hK : ∀ i, ∃ r : ℝ, K i = (r : EReal)) (b : Fin 4) (h : Fin 16) (r : Fin 1024) :
    ∃ S : Fin 1024 → ℝ, ∀ k, score Q K b h r k = (S k : EReal) ∧ Ref.scores Q K (ix4 b h r k) = (S k : EReal) := by
  choose q hq using hQ
  choose k hk using hK
  refine ⟨fun j => (∑ e : Fin 64, q (ix3 b r (col h e)) * k (ix3 b j (col h e))) * (1 / 8), fun j => ⟨?_, ?_⟩⟩
  · rw [← (score_scaled (fun e => q (ix3 b r (col h e))) (fun e => k (ix3 b j (col h e)))).1]
    refine Finset.sum_congr rfl fun e _ => ?_
    rw [hq, hk, eighth_bf16]
  · rw [← (score_scaled (fun e => q (ix3 b r (col h e))) (fun e => k (ix3 b j (col h e)))).2, Ref.scores_apply, eighth_f32]
    refine congrArg (· * _) (Finset.sum_congr rfl fun e _ => ?_)
    rw [Ref.cut_apply, Ref.cut_apply, hq, hk]

/-- The reference's row is the same quotient. -/
theorem ref_apply (hQ : ∀ i, ∃ r : ℝ, Q i = (r : EReal)) (hK : ∀ i, ∃ r : ℝ, K i = (r : EReal))
    (b : Fin 4) (r : Fin 1024) (h : Fin 16) (d : Fin 64) :
    Ref.out Q K V (ix3 b r (col h d))
      = Ideal.div (∑ k, Ideal.exp (score Q K b h r k) * V (ix3 b k (col h d))) (∑ k, Ideal.exp (score Q K b h r k)) := by
  obtain ⟨S, hS⟩ := scores_real Q K hQ hK b h r
  obtain ⟨M, hM⟩ := fold_max_coe (n := 1024) (Nat.succ_pos _) S
  have hmax : Ref.rowMax Q K (ix3 b h r) = (M : EReal) := by
    rw [Ref.rowMax_apply, neg_inf_f32, ← hM]
    exact congrArg (fun f : Fin 1024 → EReal => Finset.univ.fold max ⊥ f) (funext fun k => (hS k).2)
  have hw (k : Fin 1024) : Ref.weights Q K (ix4 b h r k) = Ideal.exp ((S k : EReal) - (M : EReal)) := by
    rw [Ref.weights_apply, (hS k).2, hmax]
  rw [Ref.out_apply, Ref.rowSum_apply]
  simp only [hw, fun k => (hS k).1]
  exact (softmax (n := 1024) (Nat.succ_pos _) S (fun k => V (ix3 b k (col h d))) M).symm

/-- A column is a head's. -/
theorem col_surj (l : Fin 1024) : ∃ h d, l = col h d :=
  ⟨⟨l.val / 64, by have := l.isLt; omega⟩, ⟨l.val % 64, Nat.mod_lt _ (by decide)⟩, Fin.ext (Nat.div_add_mod l.val 64).symm⟩

/-- The kernel's block of every device is the reference's. -/
theorem outAt_eq (hQ : ∀ i, ∃ r : ℝ, Q i = (r : EReal)) (hK : ∀ i, ∃ r : ℝ, K i = (r : EReal))
    (kv : Bool → Dev nD → Blk (Elt Ideal .bf16)) (qv : Dev nD → Blk (Elt Ideal .bf16))
    (hq : ∀ c, qv c = blk c Q) (hk : ∀ c, kv true c = blk c K) (hv : ∀ c, kv false c = blk c V) (c : Dev nD) :
    outAt kv qv c = blk c (Ref.out Q K V) := by
  have key (b : Fin 4) (i : Fin 256) (l : Fin 1024) : outAt kv qv c (ix3 b i l) = blk c (Ref.out Q K V) (ix3 b i l) := by
    obtain ⟨h, d, rfl⟩ := col_surj l
    rw [outAt_apply Q K V kv qv hq hk hv, blk_apply, ref_apply Q K V hQ hK]
  funext x
  rw [eq_ix3 x]
  exact key (x 0) (x 1) (x 2)

/-- Where every place's block is finite, the array is. -/
theorem real_of_blk (X : Arr) (hX : ∀ c i, ∃ r : ℝ, blk c X i = (r : EReal)) (i) : ∃ r : ℝ, X i = (r : EReal) := by
  have key (b : Fin 4) (r l : Fin 1024) : ∃ y : ℝ, X (ix3 b r l) = (y : EReal) := by
    have hr := r.isLt
    obtain ⟨y, hy⟩ := hX (⟨4 * (r.val / 256), by show _ < 32; omega⟩ : Dev nD) (ix3 b (⟨r.val % 256, Nat.mod_lt _ (by decide)⟩ : Fin 256) l)
    refine ⟨y, Eq.trans ?_ ((blk_apply _ X b _ l).symm.trans hy)⟩
    refine congrArg (fun t => X (ix3 b t l)) (Fin.ext ?_)
    show r.val = (4 * (r.val / 256) / 4 % 4) * 256 + r.val % 256
    omega
  rw [eq_ix3 i]
  exact key (i 0) (i 1) (i 2)

end Cert.Attn
-- ==== Proof.Result.lean ====
/-
# What the run leaves of the result

Every window is its whole array, so the staged blocks are the arguments and the result's array ends at the body's block.
-/
module

public import proofs.«01_k».proof.Proof.Launch
public import proofs.«01_k».proof.Proof.Value
public import Idealize.ShloMosaic.Lib.Pipeline.ValueKit

@[expose] public section

noncomputable section

namespace Cert.Attn

open Cert.KernelIdeal Cert.KernelIdeal.Gen
open Idealize.ShloMosaic Idealize.ShloMosaic.TcCoe Idealize.ShloMosaic.Pipeline

variable {F : FTy → Type} [FloatOps F]
variable (m : (ℓ : Loc nD τ sig) → Buf (Elt F) ℓ)

omit [FloatOps F] in
theorem qAt_eq (c : Dev nD) : qAt m c = m ((c : Thread nD τ).loc main_arg0) := by
  funext y
  refine congrArg (m ((c : Thread nD τ).loc main_arg0)) (funext fun a => Fin.ext ?_)
  refine (ValueKit.view_emb_slice_whole_unit_val main_arg0 _ _ _ y a).trans ?_
  match a with
  | ⟨0, _⟩ => exact Nat.zero_add _
  | ⟨1, _⟩ => exact Nat.zero_add _
  | ⟨2, _⟩ => exact Nat.zero_add _

omit [FloatOps F] in
theorem kAt_eq (c : Dev nD) : kvAt m true c = m ((c : Thread nD τ).loc main_arg1) := by
  funext y
  refine congrArg (m ((c : Thread nD τ).loc main_arg1)) (funext fun a => Fin.ext ?_)
  refine (ValueKit.view_emb_slice_whole_unit_val main_arg1 _ _ _ y a).trans ?_
  match a with
  | ⟨0, _⟩ => exact Nat.zero_add _
  | ⟨1, _⟩ => exact Nat.zero_add _
  | ⟨2, _⟩ => exact Nat.zero_add _

omit [FloatOps F] in
theorem vAt_eq (c : Dev nD) : kvAt m false c = m ((c : Thread nD τ).loc main_arg2) := by
  funext y
  refine congrArg (m ((c : Thread nD τ).loc main_arg2)) (funext fun a => Fin.ext ?_)
  refine (ValueKit.view_emb_slice_whole_unit_val main_arg2 _ _ _ y a).trans ?_
  match a with
  | ⟨0, _⟩ => exact Nat.zero_add _
  | ⟨1, _⟩ => exact Nat.zero_add _
  | ⟨2, _⟩ => exact Nat.zero_add _

theorem wholeAt : (cfg0.win 3).WholeAt t0_0 := by decide

theorem finalA_3 (c : Dev nD) : finalA m c (3 : Fin 4) = outAt (kvAt m) (qAt m) c :=
  (dats m 0 c).arrAt_eq_of_after_last 3 t0_0 wholeAt (outAt (kvAt m) (qAt m) c) (fun _ => rfl) (Memref.isWhole_whole _)

end Cert.Attn
-- ==== Proof.Finite.lean ====
/-
# What the precondition says

Where the predicate is all ones, each entry of the queries and of the keys is a real.
-/
module

public import proofs.«01_k».proof.Pre_finite_scores_KernelIdeal
public import proofs.«01_k».proof.Proof.Gen.Pre_finite_scores_KernelIdeal
public import proofs.«01_k».proof.Proof.Softmax
public import Idealize.ShloMosaic.Lib.Pointwise

@[expose] public section

noncomputable section

namespace Cert.Attn

open Cert.Pre_finite_scores_KernelIdeal
open Idealize.ShloMosaic

theorem finite_of_pre [Facts] (X Y Z : FVec Ideal S4x256x1024 .bf16) (h : fn (F := Ideal) X Y Z = fun _ => 1#1) (i : S4x256x1024.Idx) :
    (∃ r : ℝ, X i = (r : EReal)) ∧ ∃ r : ℝ, Y i = (r : EReal) := by
  have e : fn (F := Ideal) X Y Z i = 1#1 := congrFun h i
  revert e
  pointwise [fn, inf_bf16]
  intro e
  have both : ∀ p q : Bool, IntOp.andi (BitVec.ofBool p) (BitVec.ofBool q) = 1#1 → p = true ∧ q = true := by decide
  obtain ⟨hp, hq⟩ := both _ _ e
  exact ⟨coe_of_abs_lt (of_decide_eq_true hp), coe_of_abs_lt (of_decide_eq_true hq)⟩

end Cert.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Launch
public import proofs.«01_k».proof.Proof.Result
public import proofs.«01_k».proof.Proof.Finite
public import Idealize.ShloMosaic.Adequacy
public import Idealize.ShloMosaic.Init

@[expose] public section

noncomputable section

namespace Cert.Proof

open Idealize.ShloMosaic Idealize.SL.Sem Cert.Kernel

/-- What the run leaves, for any float values: the arguments as they were, and every counter at zero. -/
theorem run_args {F : FTy → Type} [FloatOps F] (m : (ℓ : Loc Cert.KernelIdeal.nD Cert.KernelIdeal.τ Cert.KernelIdeal.sig) → Buf (Elt F) ℓ)
    (ρ : Dev Cert.KernelIdeal.nD → PrngReg) (r) (h : Cert.Attn.QC m r ∧ r.2.sem = fun _ => 0) :
    (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
    ∧ r.2.sem = fun _ => 0 :=
  ⟨fun c => ⟨(h.1 c (0 : Fin 4)).trans (Cert.Attn.finalA_0 m c), (h.1 c (1 : Fin 4)).trans (Cert.Attn.finalA_1 m c),
    (h.1 c (2 : Fin 4)).trans (Cert.Attn.finalA_2 m c)⟩, h.2⟩

/-- The two prints of the kernel are one text: their tables of bodies are equal. -/
theorem bodies_eq {F : FTy → Type} [FloatOps F] : Cert.Kernel.defs₀ (F := F) = Cert.KernelIdeal.defs₀ (F := F) := by
  refine congrArg Defs.onTc (funext fun l => ?_)
  match l with
  | ⟨0, _⟩ => rfl
theorem defs_eq {F : FTy → Type} [FloatOps F] : Cert.Kernel.defs (F := F) = Cert.KernelIdeal.defs (F := F) :=
  congrArg (Pipeline.defs Cert.KernelIdeal.pcfgs) bodies_eq

/-- The frame of the kernel over the words of floats, -/
theorem frame_kernel : Cert.quiescent_Kernel := fun m ρ _ => by
  have h := (θ_run Cert.KernelIdeal.defs _ _).mono (fun r h => run_args (F := Bits) m ρ r h) (Cert.Attn.run_main (F := Bits) m ρ)
  rw [← defs_eq] at h
  exact h

/-- over the extended reals, -/
theorem frame_ideal : Cert.quiescent_KernelIdeal := fun m ρ _ =>
  (θ_run Cert.KernelIdeal.defs _ _).mono (fun r h => run_args (F := Ideal) m ρ r h) (Cert.Attn.run_main (F := Ideal) m ρ)

/-- and of the reference, a program without semaphores. -/
theorem frame_reference : Cert.quiescent_ReferenceIdeal := fun m ρ _ =>
  (θ_run Cert.ReferenceIdeal.defs _ _).mono (fun r h => ⟨fun c => (h c).2, funext fun g => by
    rcases g with ⟨t, sm⟩; rcases sm with ⟨_, h⟩ | ⟨_, h⟩ <;> exact absurd h (Nat.not_lt_zero _)⟩) (Cert.ReferenceIdeal.Value.run (F := Ideal) m ρ)

/-- At the extended reals, for finite queries and keys: each device's block of the kernel's result is its block of the
    reference's. -/
theorem algebraic : letI := Cert.KernelIdeal.Gen.facts; letI := Cert.ReferenceIdeal.Gen.facts; letI := Cert.Pre_finite_scores_KernelIdeal.Gen.facts
    Cert.algebraic_KernelIdeal_ReferenceIdeal_pre_finite_scores_KernelIdeal := by
  intro m g m' g' hpre hargs
  have fin (c : Dev Cert.KernelIdeal.nD) := Cert.Attn.finite_of_pre _ _ _ (hpre c)
  refine ⟨Cert.Attn.Ref.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run _ _ _).mono (fun r h c => ⟨?_, (run_args m g r h).1 c⟩) (Cert.Attn.run_main m g)
    refine (h.1 c (3 : Fin 4)).trans ((Cert.Attn.finalA_3 m c).trans ?_)
    refine Cert.Attn.outAt_eq _ _ _ ?_ ?_ _ _ ?_ ?_ ?_ c
    · exact Cert.Attn.real_of_blk _ fun d i => by
        obtain ⟨y, hy⟩ := (fin d i).1
        exact ⟨y, (congrFun (hargs d).1 i).symm.trans hy⟩
    · exact Cert.Attn.real_of_blk _ fun d i => by
        obtain ⟨y, hy⟩ := (fin d i).2
        exact ⟨y, (congrFun (hargs d).2.1 i).symm.trans hy⟩
    · exact fun d => (Cert.Attn.qAt_eq m d).trans (hargs d).1
    · exact fun d => (Cert.Attn.kAt_eq m d).trans (hargs d).2.1
    · exact fun d => (Cert.Attn.vAt_eq m d).trans (hargs d).2.2
  · refine (θ_run _ _ _).mono (fun r h => ?_) (Cert.ReferenceIdeal.Value.run m' g')
    exact ⟨(h 0).1, (h 0).2⟩

/-- All claims. -/
theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  frame_kernel, frame_ideal, fun m ρ _ => frame_ideal m ρ trivial, frame_reference, fun m ρ _ => frame_reference m ρ trivial, trivial, algebraic⟩

end Cert.Proof

end
